-- ==== Defs.lean ====
def Pre_Kernel [hPre_in_batches : Cert.Pre_in_batches.Facts] (m : (ℓ : Loc Cert.Kernel.nD Cert.Kernel.τ Cert.Kernel.sig) → Buf (Elt Bits) ℓ) : Prop :=
  ∀ c : Dev Cert.Kernel.nD,
    (Cert.Pre_in_batches.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_batches : Cert.Pre_in_batches.Facts] (m : (ℓ : Loc Cert.KernelIdeal.nD Cert.KernelIdeal.τ Cert.KernelIdeal.sig) → Buf (Elt Ideal) ℓ) : Prop :=
  ∀ c : Dev Cert.KernelIdeal.nD,
    (Cert.Pre_in_batches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_sorted_off_borders [hPre_sorted_off_borders : Cert.Pre_sorted_off_borders.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_off_borders.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_off_borders [hPre_sorted_off_borders : Cert.Pre_sorted_off_borders.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_off_borders.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_batches : Cert.Pre_in_batches.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_batches : Cert.Pre_in_batches.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_off_borders [hKernelIdeal : Cert.KernelIdeal.Facts] [hPre_sorted_off_borders : Cert.Pre_sorted_off_borders.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_off_borders m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_off_borders [hReferenceIdeal : Cert.ReferenceIdeal.Facts] [hPre_sorted_off_borders : Cert.Pre_sorted_off_borders.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_off_borders m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_off_borders [hKernelIdeal : Cert.KernelIdeal.Facts] [hReferenceIdeal : Cert.ReferenceIdeal.Facts] [hPre_sorted_off_borders : Cert.Pre_sorted_off_borders.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_off_borders m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_batches : Cert.Pre_in_batches.Facts) (hPre_sorted_off_borders : Cert.Pre_sorted_off_borders.Facts),
    quiescent_Kernel (hKernel := hKernel) (hPre_in_batches := hPre_in_batches)
    ∧ quiescent_KernelIdeal (hKernelIdeal := hKernelIdeal) (hPre_in_batches := hPre_in_batches)
    ∧ quiescent_KernelIdeal_pre_sorted_off_borders (hKernelIdeal := hKernelIdeal) (hPre_sorted_off_borders := hPre_sorted_off_borders)
    ∧ quiescent_ReferenceIdeal (hReferenceIdeal := hReferenceIdeal)
    ∧ quiescent_ReferenceIdeal_pre_sorted_off_borders (hReferenceIdeal := hReferenceIdeal) (hPre_sorted_off_borders := hPre_sorted_off_borders)
    ∧ preserves_Kernel_KernelIdeal
    ∧ algebraic_KernelIdeal_ReferenceIdeal_pre_sorted_off_borders (hKernelIdeal := hKernelIdeal) (hReferenceIdeal := hReferenceIdeal) (hPre_sorted_off_borders := hPre_sorted_off_borders)
-- ==== Pre_in_batches.lean ====
abbrev S1000000x64 : Shape := ⟨2, ![1000000, 64]⟩
abbrev S1000000x3 : Shape := ⟨2, ![1000000, 3]⟩
abbrev S1000000 : Shape := ⟨1, ![1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000x64 .f32) (main_arg1 : IVec S1000000x3 32) (main_arg2 : IVec S1000000 32) : IVec S_ 1 :=
  let main_c : IVec S_ 32 := constantI S_ 32 0#32
  let main_v0 : IVec S1000000 32 := broadcastInDim S1000000 ![] bcast_S_S1000000 main_c
  let main_v1 : IVec S1000000 1 := cmpi .sge main_arg2 main_v0
  let main_c_0 : IVec S_ 32 := constantI S_ 32 8#32
  let main_v2 : IVec S1000000 32 := broadcastInDim S1000000 ![] bcast_S_S1000000 main_c_0
  let main_v3 : IVec S1000000 1 := cmpi .slt main_arg2 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  main_v5
-- ==== Pre_sorted_off_borders.lean ====
abbrev S1000000x64 : Shape := ⟨2, ![1000000, 64]⟩
abbrev S1000000x3 : Shape := ⟨2, ![1000000, 3]⟩
abbrev S1000000 : Shape := ⟨1, ![1000000]⟩
abbrev S_ : Shape := ⟨0, ![]⟩
abbrev S8x3 : Shape := ⟨2, ![8, 3]⟩
abbrev S1000000x1 : Shape := ⟨2, ![1000000, 1]⟩
abbrev S8 : Shape := ⟨1, ![8]⟩
abbrev S8x1 : Shape := ⟨2, ![8, 1]⟩
abbrev S1x16 : Shape := ⟨2, ![1, 16]⟩
abbrev S1000000x16 : Shape := ⟨2, ![1000000, 16]⟩
abbrev S999999 : Shape := ⟨1, ![999999]⟩

class Facts : Prop where
  bcast_S_S8x3 : S_.BroadcastsInDim S8x3 (![] : Fin 0 → Fin S8x3.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S8 : S_.BroadcastsInDim S8 (![] : Fin 0 → Fin S8.rank)
  bcast_S8_S8x1_0 : S8.BroadcastsInDim S8x1 (![0] : Fin 1 → Fin S8x1.rank)
  bcast_S8x1_S8x3_0_1 : S8x1.BroadcastsInDim S8x3 (![0, 1] : Fin 2 → Fin S8x3.rank)
  reducesTo_S1000000x3_S1000000_d1 : S1000000x3.ReducesTo [1] S1000000
  h_S_ : 0 < S_.numel
  bcast_S_S1x16 : S_.BroadcastsInDim S1x16 (![] : Fin 0 → Fin S1x16.rank)
  bcast_S1000000x1_S1000000x16_0_1 : S1000000x1.BroadcastsInDim S1000000x16 (![0, 1] : Fin 2 → Fin S1000000x16.rank)
  bcast_S1x16_S1000000x16_0_1 : S1x16.BroadcastsInDim S1000000x16 (![0, 1] : Fin 2 → Fin S1000000x16.rank)
  reducesTo_S1000000_S_d0 : S1000000.ReducesTo [0] S_
  slices_S1000000_S999999_1 : S1000000.Slices ![1] S999999
  slices_S1000000_S999999_0 : S1000000.Slices ![0] S999999
  reducesTo_S999999_S_d0 : S999999.ReducesTo [0] S_
  reducesTo_S1000000x16_S_d0_1 : S1000000x16.ReducesTo [0, 1] S_
  scatter_S8x3_S1000000x1_S1000000x3_1_0_0_1_wf : ScatterDims.WF S8x3 S1000000x1 S1000000x3 [1] [0] [0] 1
  scatter_S8_S1000000x1_S1000000_n_0_0_1_wf : ScatterDims.WF S8 S1000000x1 S1000000 [] [0] [0] 1
  gather_S8x3_S1000000x1_S1000000x3_1_0_n_n_0_1_13_wf : GatherDims.WF S8x3 S1000000x1 S1000000x3 [1] [0] [] [0] [] 1 ![1, 3]

variable [Facts]

def scatter_S8x3_S1000000x1_S1000000x3_1_0_0_1 : ScatterDims S8x3 S1000000x1 S1000000x3 where
  updateWindowDims := [1]
  insertedWindowDims := [0]
  scatterDimsToOperandDims := [0]
  indexVectorDim := 1
  wf := scatter_S8x3_S1000000x1_S1000000x3_1_0_0_1_wf
def scatter_S8_S1000000x1_S1000000_n_0_0_1 : ScatterDims S8 S1000000x1 S1000000 where
  updateWindowDims := []
  insertedWindowDims := [0]
  scatterDimsToOperandDims := [0]
  indexVectorDim := 1
  wf := scatter_S8_S1000000x1_S1000000_n_0_0_1_wf
def gather_S8x3_S1000000x1_S1000000x3_1_0_n_n_0_1_13 : GatherDims S8x3 S1000000x1 S1000000x3 where
  offsetDims := [1]
  collapsedSliceDims := [0]
  operandBatchingDims := []
  startIndicesBatchingDims := []
  startIndexMap := [0]
  indexVectorDim := 1
  sliceSizes := ![1, 3]
  wf := gather_S8x3_S1000000x1_S1000000x3_1_0_n_n_0_1_13_wf
def fn_norm {F : FTy → Type} [FloatOps F] (arg0 : FVec F S1000000x3 .f32) : FVec F S1000000 .f32 :=
  let v0 : FVec F S1000000x3 .f32 := mulf arg0 arg0
  let cst : FVec F S_ .f32 := constant S_ .f32 0x00000000#32
  let v1 : FVec F S1000000 .f32 := (fun x v => Host.reduceAdd x v reducesTo_S1000000x3_S1000000_d1 h_S_) v0 cst
  let v2 : FVec F S1000000 .f32 := Host.sqrt v1
  v2

def fn_part2 {F : FTy → Type} [FloatOps F] (main_arg2 : IVec S1000000 32) (main_v37 : IVec S1000000x16 1) (main_c_7 : IVec S_ 32) : IVec S_ 1 :=
  let main_v38 : IVec S1000000 32 := broadcastInDim S1000000 ![] bcast_S_S1000000 main_c_7
  let main_v39 : IVec S1000000 1 := cmpi .sge main_arg2 main_v38
  let main_c_8 : IVec S_ 32 := constantI S_ 32 8#32
  let main_v40 : IVec S1000000 32 := broadcastInDim S1000000 ![] bcast_S_S1000000 main_c_8
  let main_v41 : IVec S1000000 1 := cmpi .slt main_arg2 main_v40
  let main_v42 : IVec S1000000 1 := andi main_v39 main_v41
  let main_c_9 : IVec S_ 1 := constantI S_ 1 1#1
  let main_v43 : IVec S_ 1 := (fun x v => Host.reduce IntOp.andi x v reducesTo_S1000000_S_d0 h_S_) main_v42 main_c_9
  let main_v44 : IVec S999999 32 := (extractStridedSlice S999999 ![1] · slices_S1000000_S999999_1) main_arg2
  let main_v45 : IVec S999999 32 := (extractStridedSlice S999999 ![0] · slices_S1000000_S999999_0) main_arg2
  let main_v46 : IVec S999999 1 := cmpi .sge main_v44 main_v45
  let main_c_10 : IVec S_ 1 := constantI S_ 1 1#1
  let main_v47 : IVec S_ 1 := (fun x v => Host.reduce IntOp.andi x v reducesTo_S999999_S_d0 h_S_) main_v46 main_c_10
  let main_v48 : IVec S_ 1 := andi main_v43 main_v47
  let main_c_11 : IVec S_ 1 := constantI S_ 1 1#1
  let main_v49 : IVec S_ 1 := (fun x v => Host.reduce IntOp.andi x v reducesTo_S1000000x16_S_d0_1 h_S_) main_v37 main_c_11
  let main_v50 : IVec S_ 1 := andi main_v48 main_v49
  main_v50

def fn_part1 {F : FTy → Type} [FloatOps F] (main_arg2 : IVec S1000000 32) (main_v0 : FVec F S1000000x3 .f32) (main_v12 : FVec F S8x3 .f32) (main_v17 : IVec S1000000 32) : IVec S_ 1 :=
  let main_v18 : IVec S1000000x1 32 := broadcastInDim S1000000x1 ![0] bcast_S1000000_S1000000x1_0 main_v17
  let main_v19 : FVec F S1000000x3 .f32 := (fun x i => Host.gather gather_S8x3_S1000000x1_S1000000x3_1_0_n_n_0_1_13 x i) main_v12 main_v18
  let main_v20 : FVec F S1000000x3 .f32 := subf main_v0 main_v19
  let main_v21 : FVec F S1000000 .f32 := fn_norm (F := F) main_v20
  let main_v22 : FVec F S1000000x1 .f32 := broadcastInDim S1000000x1 ![0] bcast_S1000000_S1000000x1_0 main_v21
  let main_v23 : IVec S1x16 32 := iotaInDim S1x16 32 1
  let main_v24 : FVec F S1x16 .f32 := sitofp .f32 main_v23
  let main_cst_4 : FVec F S_ .f32 := constant S_ .f32 0x42820000#32
  let main_v25 : FVec F S1x16 .f32 := broadcastInDim S1x16 ![] bcast_S_S1x16 main_cst_4
  let main_v26 : FVec F S1x16 .f32 := mulf main_v25 main_v24
  let main_cst_5 : FVec F S_ .f32 := constant S_ .f32 0x43110000#32
  let main_v27 : FVec F S1x16 .f32 := broadcastInDim S1x16 ![] bcast_S_S1x16 main_cst_5
  let main_v28 : FVec F S1x16 .f32 := addf main_v27 main_v26
  let main_v29 : FVec F S1000000x16 .f32 := broadcastInDim S1000000x16 ![0, 1] bcast_S1000000x1_S1000000x16_0_1 main_v22
  let main_v30 : FVec F S1000000x16 .f32 := broadcastInDim S1000000x16 ![0, 1] bcast_S1x16_S1000000x16_0_1 main_v28
  let main_v31 : IVec S1000000x16 1 := cmpf .oge main_v29 main_v30
  let main_cst_6 : FVec F S_ .f32 := constant S_ .f32 0x3F7FFFFF#32
  let main_v32 : FVec F S1x16 .f32 := broadcastInDim S1x16 ![] bcast_S_S1x16 main_cst_6
  let main_v33 : FVec F S1x16 .f32 := mulf main_v28 main_v32
  let main_v34 : FVec F S1000000x16 .f32 := broadcastInDim S1000000x16 ![0, 1] bcast_S1000000x1_S1000000x16_0_1 main_v22
  let main_v35 : FVec F S1000000x16 .f32 := broadcastInDim S1000000x16 ![0, 1] bcast_S1x16_S1000000x16_0_1 main_v33
  let main_v36 : IVec S1000000x16 1 := cmpf .olt main_v34 main_v35
  let main_v37 : IVec S1000000x16 1 := ori main_v31 main_v36
  let main_c_7 : IVec S_ 32 := constantI S_ 32 0#32
  fn_part2 (F := F) main_arg2 main_v37 main_c_7

def fn {F : FTy → Type} [FloatOps F] (main_arg0 : FVec F S1000000x64 .f32) (main_arg1 : IVec S1000000x3 32) (main_arg2 : IVec S1000000 32) : IVec S_ 1 :=
  let main_v0 : FVec F S1000000x3 .f32 := sitofp .f32 main_arg1
  let main_cst : FVec F S_ .f32 := constant S_ .f32 0x00000000#32
  let main_v1 : FVec F S8x3 .f32 := broadcastInDim S8x3 ![] bcast_S_S8x3 main_cst
  let main_v2 : IVec S1000000x1 32 := broadcastInDim S1000000x1 ![0] bcast_S1000000_S1000000x1_0 main_arg2
  let main_v3 : FVec F S8x3 .f32 := (fun x i u => Host.scatterAdd scatter_S8x3_S1000000x1_S1000000x3_1_0_0_1 x i u) main_v1 main_v2 main_v0
  let main_cst_0 : FVec F S_ .f32 := constant S_ .f32 0x3F800000#32
  let main_v4 : FVec F S1000000 .f32 := broadcastInDim S1000000 ![] bcast_S_S1000000 main_cst_0
  let main_cst_1 : FVec F S_ .f32 := constant S_ .f32 0x00000000#32
  let main_v5 : FVec F S8 .f32 := broadcastInDim S8 ![] bcast_S_S8 main_cst_1
  let main_v6 : IVec S1000000x1 32 := broadcastInDim S1000000x1 ![0] bcast_S1000000_S1000000x1_0 main_arg2
  let main_v7 : FVec F S8 .f32 := (fun x i u => Host.scatterAdd scatter_S8_S1000000x1_S1000000_n_0_0_1 x i u) main_v5 main_v6 main_v4
  let main_cst_2 : FVec F S_ .f32 := constant S_ .f32 0x3F800000#32
  let main_v8 : FVec F S8 .f32 := broadcastInDim S8 ![] bcast_S_S8 main_cst_2
  let main_v9 : FVec F S8 .f32 := maximumf main_v7 main_v8
  let main_v10 : FVec F S8x1 .f32 := broadcastInDim S8x1 ![0] bcast_S8_S8x1_0 main_v9
  let main_v11 : FVec F S8x3 .f32 := broadcastInDim S8x3 ![0, 1] bcast_S8x1_S8x3_0_1 main_v10
  let main_v12 : FVec F S8x3 .f32 := Host.divf main_v3 main_v11
  let main_c : IVec S_ 32 := constantI S_ 32 0#32
  let main_v13 : IVec S1000000 32 := broadcastInDim S1000000 ![] bcast_S_S1000000 main_c
  let main_v14 : IVec S1000000 1 := cmpi .slt main_arg2 main_v13
  let main_c_3 : IVec S_ 32 := constantI S_ 32 8#32
  let main_v15 : IVec S1000000 32 := broadcastInDim S1000000 ![] bcast_S_S1000000 main_c_3
  let main_v16 : IVec S1000000 32 := addi main_arg2 main_v15
  let main_v17 : IVec S1000000 32 := select main_v14 main_v16 main_arg2
  fn_part1 (F := F) main_arg2 main_v0 main_v12 main_v17
-- ==== Kernel.lean ====
abbrev S1000000x64 : Shape := ⟨2, ![1000000, 64]⟩
abbrev S1000000x3 : Shape := ⟨2, ![1000000, 3]⟩
abbrev S1000000 : Shape := ⟨1, ![1000000]⟩
abbrev S1000000x1 : Shape := ⟨2, ![1000000, 1]⟩
abbrev S_ : Shape := ⟨0, ![]⟩
abbrev S8x3 : Shape := ⟨2, ![8, 3]⟩
abbrev S8 : Shape := ⟨1, ![8]⟩
abbrev S8x1 : Shape := ⟨2, ![8, 1]⟩
abbrev S8x16 : Shape := ⟨2, ![8, 16]⟩
abbrev S128 : Shape := ⟨1, ![128]⟩
abbrev S384 : Shape := ⟨1, ![384]⟩
abbrev S2000 : Shape := ⟨1, ![2000]⟩
abbrev S16 : Shape := ⟨1, ![16]⟩
abbrev S1 : Shape := ⟨1, ![1]⟩
abbrev S50x1x20000 : Shape := ⟨3, ![50, 1, 20000]⟩
abbrev S128x64 : Shape := ⟨2, ![128, 64]⟩
abbrev S1x1x20000 : Shape := ⟨3, ![1, 1, 20000]⟩
abbrev S20000x64 : Shape := ⟨2, ![20000, 64]⟩
abbrev S128x8 : Shape := ⟨2, ![128, 8]⟩
abbrev S1x20000 : Shape := ⟨2, ![1, 20000]⟩
abbrev S128x20000 : Shape := ⟨2, ![128, 20000]⟩
abbrev S20000x8 : Shape := ⟨2, ![20000, 8]⟩
abbrev S128x1 : Shape := ⟨2, ![128, 1]⟩
abbrev S8x1024 : Shape := ⟨2, ![8, 1024]⟩

abbrev nBuf : Table → Nat
  | .hbm => 43
  | .local .tc .vmem => 7
  | .local .scVector .vmem => 6
  | _ => 0

abbrev bufTy : (tb : Table) → Fin (nBuf tb) → BufTy
  | .hbm, ⟨0, _⟩ => ⟨S1000000x64, .f32⟩
  | .hbm, ⟨1, _⟩ => ⟨S1000000x3, .i32⟩
  | .hbm, ⟨2, _⟩ => ⟨S1000000, .i32⟩
  | .hbm, ⟨3, _⟩ => ⟨S1000000x1, .i32⟩
  | .hbm, ⟨4, _⟩ => ⟨S1000000, .i32⟩
  | .hbm, ⟨5, _⟩ => ⟨S1000000x1, .i32⟩
  | .hbm, ⟨6, _⟩ => ⟨S1000000, .i32⟩
  | .hbm, ⟨7, _⟩ => ⟨S1000000x1, .i32⟩
  | .hbm, ⟨8, _⟩ => ⟨S1000000, .i32⟩
  | .hbm, ⟨9, _⟩ => ⟨S1000000x3, .f32⟩
  | .hbm, ⟨10, _⟩ => ⟨S_, .f32⟩
  | .hbm, ⟨11, _⟩ => ⟨S8x3, .f32⟩
  | .hbm, ⟨12, _⟩ => ⟨S1000000x1, .i32⟩
  | .hbm, ⟨13, _⟩ => ⟨S8x3, .f32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S8, .f32⟩
  | .hbm, ⟨18, _⟩ => ⟨S1000000x1, .i32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S8x1, .f32⟩
  | .hbm, ⟨24, _⟩ => ⟨S8x3, .f32⟩
  | .hbm, ⟨25, _⟩ => ⟨S8x3, .f32⟩
  | .hbm, ⟨26, _⟩ => ⟨S8x1, .f32⟩
  | .hbm, ⟨27, _⟩ => ⟨S8, .f32⟩
  | .hbm, ⟨28, _⟩ => ⟨S8x16, .f32⟩
  | .hbm, ⟨29, _⟩ => ⟨S128, .f32⟩
  | .hbm, ⟨30, _⟩ => ⟨S8x1, .f32⟩
  | .hbm, ⟨31, _⟩ => ⟨S8, .f32⟩
  | .hbm, ⟨32, _⟩ => ⟨S8x16, .f32⟩
  | .hbm, ⟨33, _⟩ => ⟨S128, .f32⟩
  | .hbm, ⟨34, _⟩ => ⟨S8x1, .f32⟩
  | .hbm, ⟨35, _⟩ => ⟨S8, .f32⟩
  | .hbm, ⟨36, _⟩ => ⟨S8x16, .f32⟩
  | .hbm, ⟨37, _⟩ => ⟨S128, .f32⟩
  | .hbm, ⟨38, _⟩ => ⟨S384, .f32⟩
  | .hbm, ⟨39, _⟩ => ⟨S1000000, .i32⟩
  | .hbm, ⟨40, _⟩ => ⟨S50x1x20000, .i32⟩
  | .hbm, ⟨41, _⟩ => ⟨S128x64, .f32⟩
  | .hbm, ⟨42, _⟩ => ⟨S8x1024, .f32⟩
  | .local .tc .vmem, ⟨0, _⟩ => ⟨S1x1x20000, .i32⟩
  | .local .tc .vmem, ⟨1, _⟩ => ⟨S1x1x20000, .i32⟩
  | .local .tc .vmem, ⟨2, _⟩ => ⟨S20000x64, .f32⟩
  | .local .tc .vmem, ⟨3, _⟩ => ⟨S20000x64, .f32⟩
  | .local .tc .vmem, ⟨4, _⟩ => ⟨S128x64, .f32⟩
  | .local .tc .vmem, ⟨5, _⟩ => ⟨S128x64, .f32⟩
  | .local .tc .vmem, ⟨6, _⟩ => ⟨S128x8, .f32⟩
  | .local .scVector .vmem, ⟨0, _⟩ => ⟨S2000, .i32⟩
  | .local .scVector .vmem, ⟨1, _⟩ => ⟨S2000, .i32⟩
  | .local .scVector .vmem, ⟨2, _⟩ => ⟨S2000, .i32⟩
  | .local .scVector .vmem, ⟨3, _⟩ => ⟨S2000, .i32⟩
  | .local .scVector .vmem, ⟨4, _⟩ => ⟨S2000, .i32⟩
  | .local .scVector .vmem, ⟨5, _⟩ => ⟨S384, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v1_scv : Ref sig .scVector := ⟨.hbm, 4, rfl⟩
abbrev main_v3_scv : Ref sig .scVector := ⟨.hbm, 6, rfl⟩
abbrev main_v5_scv : Ref sig .scVector := ⟨.hbm, 8, rfl⟩
abbrev main_arg2_scv : Ref sig .scVector := ⟨.hbm, 2, rfl⟩
abbrev main_v31_scv : Ref sig .scVector := ⟨.hbm, 38, rfl⟩
abbrev main_v32_scv : Ref sig .scVector := ⟨.hbm, 39, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_scratch0 : Ref sig .tc := ⟨.vmem, 5, rfl⟩
abbrev cc1_scratch1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_1 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v5 : BitVec 32 := Scalar.subi v4 c0_i32_1
  let c1_i32_2 : BitVec 32 := 1#32
  let v7 : BitVec 32 := Scalar.divsi v5 c1_i32_2
  let v8 : BitVec 32 := Scalar.muli v7 c1_i32_2
  let v9 : BitVec 32 := Scalar.addi c0_i32_1 v8
  let c1_i32_3 : BitVec 32 := 1#32
  ⟨c0_i32_1, v9, c1_i32_3⟩
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32_3 : BitVec 32 := 1#32
  let arg14 : BitVec 32 := Scf.iv c0_i32_1 c1_i32_3 k0_t1
  let c32_i32 : BitVec 32 := 32#32
  let v10 : BitVec 32 := Scalar.muli arg14 c32_i32
  let v11 : BitVec 32 := Scalar.addi v1 v10
  let c2000_i32 : BitVec 32 := 2000#32
  let v12 : BitVec 32 := Scalar.muli v11 c2000_i32
  ![v12.toNat]
def k0_off2 (v16 : BitVec 32) : Fin 1 → Nat :=
  let c16_i32 : BitVec 32 := 16#32
  let v25 : BitVec 32 := Scalar.muli v16 c16_i32
  let v26 : Index := Scalar.indexCast v25
  ![v26.toNat]
def k0_cond1 (v16 : BitVec 32) (v20 : BitVec 32) : BitVec 1 :=
  let v21 : BitVec 1 := Scalar.cmpi .eq v16 v20
  let v22 : BitVec 32 := Scalar.extui v21
  let c0_i32_6 : BitVec 32 := 0#32
  let v23 : BitVec 1 := Scalar.cmpi .ne v22 c0_i32_6
  v23

def k0_off3 (v16 : BitVec 32) (c128_i32 : BitVec 32) : Fin 1 → Nat :=
  let c16_i32_7 : BitVec 32 := 16#32
  let v29 : BitVec 32 := Scalar.muli v16 c16_i32_7
  let v30 : BitVec 32 := Scalar.addi c128_i32 v29
  let v31 : Index := Scalar.indexCast v30
  ![v31.toNat]

def k0_chk1 (v16 : BitVec 32) (v20 : BitVec 32) : Prop :=
  (∀ (k0_h1 : k0_cond1 v16 v20 = 1#1), ∀ a, (k0_off2 v16) a + S16.size a ≤ S384.size a) ∧
  (∀ (k0_h1 : k0_cond1 v16 v20 = 1#1), ∀ (r : Fin 2), ∀ a, (k0_off3 v16 (BitVec.ofNat 32 (128 + 128 * r.val))) a + S16.size a ≤ S384.size a)
theorem k0_off2_inb : ∀ (v16 : BitVec 32) (v20 : BitVec 32) (k0_hw1 : k0_chk1 v16 v20), ∀ (k0_h1 : k0_cond1 v16 v20 = 1#1), ∀ a, (k0_off2 v16) a + S16.size a ≤ S384.size a := fun v16 v20 k0_hw1 k0_h1 => k0_hw1.1 k0_h1
theorem k0_off3_inb : ∀ (v16 : BitVec 32) (v20 : BitVec 32) (k0_hw1 : k0_chk1 v16 v20), ∀ (k0_h1 : k0_cond1 v16 v20 = 1#1), ∀ (r : Fin 2), ∀ a, (k0_off3 v16 (BitVec.ofNat 32 (128 + 128 * r.val))) a + S16.size a ≤ S384.size a := fun v16 v20 k0_hw1 k0_h1 r => k0_hw1.2 k0_h1 r

@[reducible] def k0_t2_loop : Scf.Loop 32 :=
  let c0_i32_11 : BitVec 32 := 0#32
  let c125_i32 : BitVec 32 := 125#32
  let v41 : BitVec 32 := Scalar.addi c0_i32_11 c125_i32
  let c1_i32_12 : BitVec 32 := 1#32
  ⟨c0_i32_11, v41, c1_i32_12⟩
def k0_off4 (k0_t2 : Fin k0_t2_loop.trips) : Fin 1 → Nat :=
  let c0_i32_11 : BitVec 32 := 0#32
  let c1_i32_12 : BitVec 32 := 1#32
  let arg15 : BitVec 32 := Scf.iv c0_i32_11 c1_i32_12 k0_t2
  let c16_i32_15 : BitVec 32 := 16#32
  let v42 : BitVec 32 := Scalar.muli arg15 c16_i32_15
  let v43 : Index := Scalar.indexCast v42
  ![v43.toNat]
@[reducible] def k0_t3_loop : Scf.Loop 32 :=
  let c0_i32_8 : BitVec 32 := 0#32
  let c125_i32 : BitVec 32 := 125#32
  let v25 : BitVec 32 := Scalar.addi c0_i32_8 c125_i32
  let c1_i32_9 : BitVec 32 := 1#32
  ⟨c0_i32_8, v25, c1_i32_9⟩
def k0_off5 (k0_t3 : Fin k0_t3_loop.trips) : Fin 1 → Nat :=
  let c0_i32_8 : BitVec 32 := 0#32
  let c1_i32_9 : BitVec 32 := 1#32
  let arg15 : BitVec 32 := Scf.iv c0_i32_8 c1_i32_9 k0_t3
  let c16_i32 : BitVec 32 := 16#32
  let v26 : BitVec 32 := Scalar.muli arg15 c16_i32
  let v27 : Index := Scalar.indexCast v26
  ![v27.toNat]
def k0_off6 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c1_i32_3 : BitVec 32 := 1#32
  let arg14 : BitVec 32 := Scf.iv c0_i32_1 c1_i32_3 k0_t1
  let c32_i32 : BitVec 32 := 32#32
  let v10 : BitVec 32 := Scalar.muli arg14 c32_i32
  let v11 : BitVec 32 := Scalar.addi v1 v10
  let c2000_i32 : BitVec 32 := 2000#32
  let v12 : BitVec 32 := Scalar.muli v11 c2000_i32
  ![v12.toNat]
@[reducible] def k0_t4_loop (i : grid0.Coords) : Scf.Loop 32 :=
  let c0_i32_1 : BitVec 32 := 0#32
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v5 : BitVec 32 := Scalar.subi v4 c0_i32_1
  let c1_i32_2 : BitVec 32 := 1#32
  let v7 : BitVec 32 := Scalar.divsi v5 c1_i32_2
  let v8 : BitVec 32 := Scalar.muli v7 c1_i32_2
  let v9 : BitVec 32 := Scalar.addi c0_i32_1 v8
  let v6 : BitVec 32 := Scalar.addi c0_i32_1 v5
  let c1_i32_4 : BitVec 32 := 1#32
  ⟨v9, v6, c1_i32_4⟩
def k0_off7 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c15_i32 : BitVec 32 := 15#32
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v5 : BitVec 32 := Scalar.subi v4 c0_i32_1
  let c1_i32_2 : BitVec 32 := 1#32
  let v7 : BitVec 32 := Scalar.divsi v5 c1_i32_2
  let v8 : BitVec 32 := Scalar.muli v7 c1_i32_2
  let v9 : BitVec 32 := Scalar.addi c0_i32_1 v8
  let c1_i32_4 : BitVec 32 := 1#32
  let arg14 : BitVec 32 := Scf.iv v9 c1_i32_4 k0_t4
  let c32_i32 : BitVec 32 := 32#32
  let v10 : BitVec 32 := Scalar.muli arg14 c32_i32
  let v11 : BitVec 32 := Scalar.addi v1 v10
  let c2000_i32 : BitVec 32 := 2000#32
  let v12 : BitVec 32 := Scalar.muli v11 c2000_i32
  ![v12.toNat]
def k0_off8 (v16 : BitVec 32) : Fin 1 → Nat :=
  let c16_i32 : BitVec 32 := 16#32
  let v25 : BitVec 32 := Scalar.muli v16 c16_i32
  let v26 : Index := Scalar.indexCast v25
  ![v26.toNat]
def k0_cond2 (v16 : BitVec 32) (v20 : BitVec 32) : BitVec 1 :=
  let v21 : BitVec 1 := Scalar.cmpi .eq v16 v20
  let v22 : BitVec 32 := Scalar.extui v21
  let c0_i32_6 : BitVec 32 := 0#32
  let v23 : BitVec 1 := Scalar.cmpi .ne v22 c0_i32_6
  v23

def k0_off9 (v16 : BitVec 32) (c128_i32 : BitVec 32) : Fin 1 → Nat :=
  let c16_i32_7 : BitVec 32 := 16#32
  let v29 : BitVec 32 := Scalar.muli v16 c16_i32_7
  let v30 : BitVec 32 := Scalar.addi c128_i32 v29
  let v31 : Index := Scalar.indexCast v30
  ![v31.toNat]

def k0_chk2 (i : grid0.Coords) (k0_t4 : Fin (k0_t4_loop i).trips) (v16 : BitVec 32) (v20 : BitVec 32) : Prop :=
  (∀ (k0_h2 : k0_cond2 v16 v20 = 1#1), ∀ a, (k0_off8 v16) a + S16.size a ≤ S384.size a) ∧
  (∀ (k0_h2 : k0_cond2 v16 v20 = 1#1), ∀ (r : Fin 2), ∀ a, (k0_off9 v16 (BitVec.ofNat 32 (128 + 128 * r.val))) a + S16.size a ≤ S384.size a)
theorem k0_off8_inb : ∀ (i : grid0.Coords) (k0_t4 : Fin (k0_t4_loop i).trips) (v16 : BitVec 32) (v20 : BitVec 32) (k0_hw2 : k0_chk2 i k0_t4 v16 v20), ∀ (k0_h2 : k0_cond2 v16 v20 = 1#1), ∀ a, (k0_off8 v16) a + S16.size a ≤ S384.size a := fun i k0_t4 v16 v20 k0_hw2 k0_h2 => k0_hw2.1 k0_h2
theorem k0_off9_inb : ∀ (i : grid0.Coords) (k0_t4 : Fin (k0_t4_loop i).trips) (v16 : BitVec 32) (v20 : BitVec 32) (k0_hw2 : k0_chk2 i k0_t4 v16 v20), ∀ (k0_h2 : k0_cond2 v16 v20 = 1#1), ∀ (r : Fin 2), ∀ a, (k0_off9 v16 (BitVec.ofNat 32 (128 + 128 * r.val))) a + S16.size a ≤ S384.size a := fun i k0_t4 v16 v20 k0_hw2 k0_h2 r => k0_hw2.2 k0_h2 r

@[reducible] def k0_t5_loop : Scf.Loop 32 :=
  let c0_i32_11 : BitVec 32 := 0#32
  let c125_i32 : BitVec 32 := 125#32
  let v41 : BitVec 32 := Scalar.addi c0_i32_11 c125_i32
  let c1_i32_12 : BitVec 32 := 1#32
  ⟨c0_i32_11, v41, c1_i32_12⟩
def k0_off10 (k0_t5 : Fin k0_t5_loop.trips) : Fin 1 → Nat :=
  let c0_i32_11 : BitVec 32 := 0#32
  let c1_i32_12 : BitVec 32 := 1#32
  let arg15 : BitVec 32 := Scf.iv c0_i32_11 c1_i32_12 k0_t5
  let c16_i32_15 : BitVec 32 := 16#32
  let v42 : BitVec 32 := Scalar.muli arg15 c16_i32_15
  let v43 : Index := Scalar.indexCast v42
  ![v43.toNat]
@[reducible] def k0_t6_loop : Scf.Loop 32 :=
  let c0_i32_8 : BitVec 32 := 0#32
  let c125_i32 : BitVec 32 := 125#32
  let v25 : BitVec 32 := Scalar.addi c0_i32_8 c125_i32
  let c1_i32_9 : BitVec 32 := 1#32
  ⟨c0_i32_8, v25, c1_i32_9⟩
def k0_off11 (k0_t6 : Fin k0_t6_loop.trips) : Fin 1 → Nat :=
  let c0_i32_8 : BitVec 32 := 0#32
  let c1_i32_9 : BitVec 32 := 1#32
  let arg15 : BitVec 32 := Scf.iv c0_i32_8 c1_i32_9 k0_t6
  let c16_i32 : BitVec 32 := 16#32
  let v26 : BitVec 32 := Scalar.muli arg15 c16_i32
  let v27 : Index := Scalar.indexCast v26
  ![v27.toNat]
def k0_off12 (i : grid0.Coords) (k0_t4 : Fin (k0_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1 : BitVec 32 := 0#32
  let c15_i32 : BitVec 32 := 15#32
  let c20_i32 : BitVec 32 := 20#32
  let v2 : BitVec 1 := Scalar.cmpi .slt v1 c20_i32
  let c1_i32 : BitVec 32 := 1#32
  let c0_i32 : BitVec 32 := 0#32
  let v3 : BitVec 32 := Scalar.select v2 c1_i32 c0_i32
  let v4 : BitVec 32 := Scalar.addi c15_i32 v3
  let v5 : BitVec 32 := Scalar.subi v4 c0_i32_1
  let c1_i32_2 : BitVec 32 := 1#32
  let v7 : BitVec 32 := Scalar.divsi v5 c1_i32_2
  let v8 : BitVec 32 := Scalar.muli v7 c1_i32_2
  let v9 : BitVec 32 := Scalar.addi c0_i32_1 v8
  let c1_i32_4 : BitVec 32 := 1#32
  let arg14 : BitVec 32 := Scf.iv v9 c1_i32_4 k0_t4
  let c32_i32 : BitVec 32 := 32#32
  let v10 : BitVec 32 := Scalar.muli arg14 c32_i32
  let v11 : BitVec 32 := Scalar.addi v1 v10
  let c2000_i32 : BitVec 32 := 2000#32
  let v12 : BitVec 32 := Scalar.muli v11 c2000_i32
  ![v12.toNat]
abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v26 : BitVec 1 := Scalar.cmpi .eq arg0 c49_i32
  let v27 : BitVec 32 := Scalar.extui v26
  let c0_i32_15 : BitVec 32 := 0#32
  let v28 : BitVec 1 := Scalar.cmpi .ne v27 c0_i32_15
  v28

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x20000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x64 : Shape := ⟨2, ![1000000, 64]⟩
abbrev S1000000x3 : Shape := ⟨2, ![1000000, 3]⟩
abbrev S1000000 : Shape := ⟨1, ![1000000]⟩
abbrev S_ : Shape := ⟨0, ![]⟩
abbrev S8x3 : Shape := ⟨2, ![8, 3]⟩
abbrev S1000000x1 : Shape := ⟨2, ![1000000, 1]⟩
abbrev S8 : Shape := ⟨1, ![8]⟩
abbrev S8x1 : Shape := ⟨2, ![8, 1]⟩
abbrev S16 : Shape := ⟨1, ![16]⟩
abbrev S1 : Shape := ⟨1, ![1]⟩
abbrev S17 : Shape := ⟨1, ![17]⟩
abbrev S1x17 : Shape := ⟨2, ![1, 17]⟩
abbrev S1000000x17 : Shape := ⟨2, ![1000000, 17]⟩
abbrev S129x64 : Shape := ⟨2, ![129, 64]⟩
abbrev S129 : Shape := ⟨1, ![129]⟩
abbrev S129x1 : Shape := ⟨2, ![129, 1]⟩
abbrev S128x64 : Shape := ⟨2, ![128, 64]⟩
abbrev S8x1024 : Shape := ⟨2, ![8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x3, .i32⟩
  | .hbm, ⟨2, _⟩ => ⟨S1000000, .i32⟩
  | .hbm, ⟨3, _⟩ => ⟨S1000000x3, .f32⟩
  | .hbm, ⟨4, _⟩ => ⟨S_, .f32⟩
  | .hbm, ⟨5, _⟩ => ⟨S8x3, .f32⟩
  | .hbm, ⟨6, _⟩ => ⟨S1000000x1, .i32⟩
  | .hbm, ⟨7, _⟩ => ⟨S8x3, .f32⟩
  | .hbm, ⟨8, _⟩ => ⟨S_, .f32⟩
  | .hbm, ⟨9, _⟩ => ⟨S1000000, .f32⟩
  | .hbm, ⟨10, _⟩ => ⟨S_, .f32⟩
  | .hbm, ⟨11, _⟩ => ⟨S8, .f32⟩
  | .hbm, ⟨12, _⟩ => ⟨S1000000x1, .i32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8x3, .f32⟩
  | .hbm, ⟨19, _⟩ => ⟨S8x3, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x3, .f32⟩
  | .hbm, ⟨29, _⟩ => ⟨S1000000x3, .f32⟩
  | .hbm, ⟨30, _⟩ => ⟨S1000000x3, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S_, .f32⟩
  | .hbm, ⟨35, _⟩ => ⟨S1000000, .f32⟩
  | .hbm, ⟨36, _⟩ => ⟨S1000000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S1, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S1, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S1, .f32⟩
  | .hbm, ⟨59, _⟩ => ⟨S17, .f32⟩
  | .hbm, ⟨60, _⟩ => ⟨S_, .i32⟩
  | .hbm, ⟨61, _⟩ => ⟨S1, .i32⟩
  | .hbm, ⟨62, _⟩ => ⟨S_, .f32⟩
  | .hbm, ⟨63, _⟩ => ⟨S17, .f32⟩
  | .hbm, ⟨64, _⟩ => ⟨S1x17, .f32⟩
  | .hbm, ⟨65, _⟩ => ⟨S1000000x1, .f32⟩
  | .hbm, ⟨66, _⟩ => ⟨S1000000x17, .f32⟩
  | .hbm, ⟨67, _⟩ => ⟨S1000000x17, .f32⟩
  | .hbm, ⟨68, _⟩ => ⟨S1000000x17, .i1⟩
  | .hbm, ⟨69, _⟩ => ⟨S1000000x17, .i32⟩
  | .hbm, ⟨70, _⟩ => ⟨S_, .i32⟩
  | .hbm, ⟨71, _⟩ => ⟨S1000000, .i32⟩
  | .hbm, ⟨72, _⟩ => ⟨S_, .i32⟩
  | .hbm, ⟨73, _⟩ => ⟨S1000000, .i32⟩
  | .hbm, ⟨74, _⟩ => ⟨S1000000, .i32⟩
  | .hbm, ⟨75, _⟩ => ⟨S_, .i32⟩
  | .hbm, ⟨76, _⟩ => ⟨S1000000, .i32⟩
  | .hbm, ⟨77, _⟩ => ⟨S1000000, .i1⟩
  | .hbm, ⟨78, _⟩ => ⟨S_, .i32⟩
  | .hbm, ⟨79, _⟩ => ⟨S1000000, .i32⟩
  | .hbm, ⟨80, _⟩ => ⟨S1000000, .i1⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S_, .i32⟩
  | .hbm, ⟨87, _⟩ => ⟨S_, .i32⟩
  | .hbm, ⟨88, _⟩ => ⟨S1000000, .i32⟩
  | .hbm, ⟨89, _⟩ => ⟨S1000000, .i32⟩
  | .hbm, ⟨90, _⟩ => ⟨S_, .f32⟩
  | .hbm, ⟨91, _⟩ => ⟨S129x64, .f32⟩
  | .hbm, ⟨92, _⟩ => ⟨S1000000x1, .i32⟩
  | .hbm, ⟨93, _⟩ => ⟨S129x64, .f32⟩
  | .hbm, ⟨94, _⟩ => ⟨S1000000, .f32⟩
  | .hbm, ⟨95, _⟩ => ⟨S_, .f32⟩
  | .hbm, ⟨96, _⟩ => ⟨S129, .f32⟩
  | .hbm, ⟨97, _⟩ => ⟨S1000000x1, .i32⟩
  | .hbm, ⟨98, _⟩ => ⟨S129, .f32⟩
  | .hbm, ⟨99, _⟩ => ⟨S129x1, .f32⟩
  | .hbm, ⟨100, _⟩ => ⟨S_, .f32⟩
  | .hbm, ⟨101, _⟩ => ⟨S129x1, .f32⟩
  | .hbm, ⟨102, _⟩ => ⟨S129x1, .i1⟩
  | .hbm, ⟨103, _⟩ => ⟨S_, .f32⟩
  | .hbm, ⟨104, _⟩ => ⟨S129, .f32⟩
  | .hbm, ⟨105, _⟩ => ⟨S129, .f32⟩
  | .hbm, ⟨106, _⟩ => ⟨S129x1, .f32⟩
  | .hbm, ⟨107, _⟩ => ⟨S129x64, .f32⟩
  | .hbm, ⟨108, _⟩ => ⟨S129x64, .f32⟩
  | .hbm, ⟨109, _⟩ => ⟨S_, .f32⟩
  | .hbm, ⟨110, _⟩ => ⟨S_, .f32⟩
  | .hbm, ⟨111, _⟩ => ⟨S129x64, .i1⟩
  | .hbm, ⟨112, _⟩ => ⟨S129x64, .f32⟩
  | .hbm, ⟨113, _⟩ => ⟨S129x64, .f32⟩
  | .hbm, ⟨114, _⟩ => ⟨S128x64, .f32⟩
  | .hbm, ⟨115, _⟩ => ⟨S8x1024, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_cst : Ref sig .tc := ⟨.hbm, 42, rfl⟩
abbrev main_call1_v3 : Ref sig .tc := ⟨.hbm, 43, rfl⟩
abbrev main_call1_v4 : Ref sig .tc := ⟨.hbm, 44, rfl⟩
abbrev main_call1_cst_0 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_v24 : Ref sig .tc := ⟨.hbm, 59, rfl⟩
abbrev main_c_7 : Ref sig .tc := ⟨.hbm, 60, rfl⟩
abbrev main_v25 : Ref sig .tc := ⟨.hbm, 61, rfl⟩
abbrev main_cst_8 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_9 : Ref sig .tc := ⟨.hbm, 70, rfl⟩
abbrev main_v33 : Ref sig .tc := ⟨.hbm, 71, rfl⟩
abbrev main_c_10 : Ref sig .tc := ⟨.hbm, 72, rfl⟩
abbrev main_v34 : Ref sig .tc := ⟨.hbm, 73, rfl⟩
abbrev main_v35 : Ref sig .tc := ⟨.hbm, 74, rfl⟩
abbrev main_c_11 : Ref sig .tc := ⟨.hbm, 75, rfl⟩
abbrev main_v36 : Ref sig .tc := ⟨.hbm, 76, rfl⟩
abbrev main_v37 : Ref sig .tc := ⟨.hbm, 77, rfl⟩
abbrev main_c_12 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_13 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_14 : Ref sig .tc := ⟨.hbm, 86, rfl⟩
abbrev main_call2_v0 : Ref sig .tc := ⟨.hbm, 87, rfl⟩
abbrev main_call2_v1 : Ref sig .tc := ⟨.hbm, 88, rfl⟩
abbrev main_v44 : Ref sig .tc := ⟨.hbm, 89, rfl⟩
abbrev main_cst_15 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_16 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_17 : Ref sig .tc := ⟨.hbm, 100, rfl⟩
abbrev main_v53 : Ref sig .tc := ⟨.hbm, 101, rfl⟩
abbrev main_v54 : Ref sig .tc := ⟨.hbm, 102, rfl⟩
abbrev main_cst_18 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_cst_19 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩

abbrev nD : Nat := 1
abbrev τ : Topo := Topo.v7x

variable {F : FTy → Type} [FloatOps F]
-- ==== Proof.Setup.lean ====
/-
  What every module of this certificate speaks of: the launch as the SparseCore launch theorem sees it, and the
  resource algebra the run's invariants live in.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.ShareLeaves
public import proofs.«01_k».proof.Proof.Gen.KernelIdeal
public import proofs.«01_k».proof.Proof.Gen.KernelIdeal.Skeleton

@[expose] public section

noncomputable section

namespace Cert.Proof.Bin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-- The pipelines' labels over the kernels' own. -/
abbrev ΛP : Labels := Pipeline.Sig Λ₀ (Fin 1) fun p => (pcfgs (F := F) p).Adm
/-- The SparseCore launch of the program. -/
abbrev K : SparseCore.Cfg τ sig (ΛP (F := F)) 1 := sc (F := F)
/-- The kernels' definitions with the TensorCore pipeline's on top. -/
abbrev D [FloatOps F] : Defs nD τ sig (Elt F) (ΛP (F := F)) := Pipeline.defs pcfgs defs₀
/-- No kernel recurses: no variants. -/
abbrev 𝒱₀ : Variants := Variants.none
abbrev 𝒱 : Variants := 𝒱₀.lift
abbrev v₀ : 𝒱.V := Sum.inl none

/-- The side conditions the launch theorem asks of the printed launch. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The rounds of the TensorCore pipeline's staging cells. -/
abbrev UP : Type := UR sig nD τ
/-- The handshakes' rounds beside the pipeline's and the local transfers' counters. -/
abbrev UU : Type := UH × (UP × Counters)
/-- The assertions' model. -/
abbrev MM (F : FTy → Type) : Type := MT nD τ sig (HIx 1) (Elt F) ℕ UU ℕ
abbrev EH : Emb UH (MT nD τ sig (HIx 1) (Elt F) ℕ UU ℕ) := embL
/-- The pipeline's rounds inside the model. -/
def EP : Emb UP (MT nD τ sig (HIx 1) (Elt F) ℕ UU ℕ) := (Emb.inl : Emb UP (UP × Counters)).trans embR

instance EP_landsIn : (EP : Emb UP (MM F)).LandsIn (upEmb : UEmb _ (MM F)) := by unfold EP; infer_instance

end Cert.Proof.Bin

end
-- ==== Proof.Words.lean ====
/-
  The word the binning kernel writes for one point, lane by lane: the squared distance to the mean, the number of
  borders it has reached, and the sector's number or the number past the last one. The two inner loops of the kernel
  compute it in vectors of sixteen lanes; here their composed vector functions are read at a lane.
-/
module

public import proofs.«01_k».proof.Proof.Setup

@[expose] public section

noncomputable section

namespace Cert.Proof.Bin

open Cert.KernelIdeal Cert.KernelIdeal.Gen
open Idealize.ShloMosaic

variable {F : FTy → Type} [FloatOps F]

/-- Squared distance of the point `(x, y, z)` from the mean `(a, b, c)`, in the kernel's order. -/
def dist2 (x y z : BitVec 32) (a b c : F .f32) : F .f32 :=
  let dx := FloatOps.subf (FloatOps.sitofp .f32 x) a
  let dy := FloatOps.subf (FloatOps.sitofp .f32 y) b
  let dz := FloatOps.subf (FloatOps.sitofp .f32 z) c
  FloatOps.addf (FloatOps.addf (FloatOps.mulf dx dx) (FloatOps.mulf dy dy)) (FloatOps.mulf dz dz)

/-- One more when `d` has reached the border with word `t`. -/
def bump (d : F .f32) (n : BitVec 32) (t : BitVec 32) : BitVec 32 :=
  IntOp.addi n (if FloatOps.cmpf .oge d (Scalar.ofBits .f32 t) = 1#1 then 1#32 else 0#32)

/-- The words of the sixteen squared borders. -/
def borderWords : List (BitVec 32) :=
  [0x46A441FF#32, 0x472C4400#32, 0x4793B47F#32, 0x47E1C7FF#32, 0x48202E40#32, 0x4857B900#32, 0x488BC21F#32, 0x48AFC7FF#32,
    0x48D7EE1F#32, 0x49021A40#32, 0x491A4D90#32, 0x49349100#32, 0x4950E490#32, 0x496F4840#32, 0x4987DE07#32, 0x49991FFF#32]

/-- How many borders `d` has reached. -/
def sectorOf (d : F .f32) : BitVec 32 := borderWords.foldl (bump d) 0#32

/-- The segment's number of a point of batch `b` at squared distance `d`: `128` past the last border. -/
def segOf (b : BitVec 32) (d : F .f32) : BitVec 32 :=
  if IntOp.cmpi .slt (sectorOf d) 16#32 = 1#1 then IntOp.addi (IntOp.muli b 16#32) (sectorOf d) else 128#32

/-- The mean a lane takes by comparing its batch number with `1` to `7` in turn. -/
def pickMean (b : BitVec 32) (g : Fin 8 → F .f32) : F .f32 :=
  let p := fun (k : Fin 8) (n : F .f32) => if IntOp.cmpi .eq b (BitVec.ofNat 32 k.val) = 1#1 then g k else n
  p 7 (p 6 (p 5 (p 4 (p 3 (p 2 (p 1 (g 0)))))))

/-- Lane `n` of a vector of sixteen. -/
def lane (n : Fin 16) : S16.Idx := fun a => match a with | 0 => n

/-- One border's step of the count, in vectors, is `bump` lane by lane. -/
theorem addi_step (w : FVec F S16 .f32) (n : IVec S16 32) (t : BitVec 32) :
    addi n (select (cmpf .oge w (broadcast S16 (Scalar.ofBits (F := F) .f32 t))) (broadcast S16 1#32) (broadcast S16 0#32))
      = fun l => bump (w l) (n l) t := rfl

/-- The last choice, in vectors, is `segOf` at a lane. -/
theorem select_step (w : FVec F S16 .f32) (b n : IVec S16 32) (l : S16.Idx) (u : BitVec 32) (hn : n l = sectorOf (w l))
    (hb : b l = IntOp.muli u 16#32) :
    select (cmpi .slt n (broadcast S16 16#32)) (addi b n) (broadcast S16 128#32) l = segOf u (w l) := by
  rw [segOf, ← hn, ← hb]
  rfl

/-- The first lane of a batch vector, as the kernel takes it out. -/
theorem firstLane (v : Vec F S16 .i32) : extractAt ![0] (k0_pay1 (F := F) v) inpos_S1_p0 = v (lane 0) := by
  unfold k0_pay1
  simp only [shapeCast_self]
  unfold extractAt extractStridedSlice
  refine congrArg v (funext fun a => ?_)
  match a with | 0 => rfl

/-- The last lane of a batch vector, as the kernel takes it out. -/
theorem lastLane (v : Vec F S16 .i32) : extractAt ![0] (k0_pay2 (F := F) v) inpos_S1_p0 = v (lane 15) := by
  unfold k0_pay2
  simp only [shapeCast_self]
  unfold extractAt extractStridedSlice
  refine congrArg v (funext fun a => ?_)
  match a with | 0 => rfl

/-- The fast loop's sixteen words. -/
theorem fastWords (v13 : Vec F S16 .i32) (a b c : Vec F S16 .f32) (x y z : Vec F S16 .i32) (l : S16.Idx) :
    k0_pay18 (k0_pay6 (F := F) v13) (k0_pay13 (k0_pay3 a) (k0_pay4 b) (k0_pay5 c) x y z)
        (k0_pay16 (k0_pay13 (k0_pay3 a) (k0_pay4 b) (k0_pay5 c) x y z) (k0_pay14 (k0_pay3 a) (k0_pay4 b) (k0_pay5 c) x y z)
          (k0_pay15 (k0_pay3 a) (k0_pay4 b) (k0_pay5 c) x y z))
        (k0_pay17 (k0_pay13 (k0_pay3 a) (k0_pay4 b) (k0_pay5 c) x y z)) 1#32 0#32 l
      = segOf (v13 (lane 0)) (dist2 (x l) (y l) (z l) (a l) (b l) (c l)) := by
  unfold k0_pay16 k0_pay15 k0_pay14
  have hd : k0_pay13 (k0_pay3 a) (k0_pay4 b) (k0_pay5 c) x y z l = dist2 (x l) (y l) (z l) (a l) (b l) (c l) := by
    unfold k0_pay13 k0_pay3 k0_pay4 k0_pay5
    simp only [shapeCast_self]
    rfl
  generalize k0_pay13 (k0_pay3 a) (k0_pay4 b) (k0_pay5 c) x y z = w at hd ⊢
  rw [← hd]
  unfold k0_pay18 k0_pay6 k0_pay17
  simp only [shapeCast_self, firstLane]
  simp only [addi_step]
  exact select_step _ _ _ l _ rfl rfl

/-- The slow loop's sixteen words at the means its lanes took. -/
theorem slowWords (v x y z : Vec F S16 .i32) (mx my mz : FVec F S16 .f32) (l : S16.Idx) :
    k0_pay38 (k0_pay19 (F := F) v) (k0_pay33 mx my mz x y z)
        (k0_pay36 (k0_pay33 mx my mz x y z) (k0_pay34 mx my mz x y z) k0_pay35) (k0_pay37 (k0_pay33 mx my mz x y z)) l
      = segOf (v l) (dist2 (x l) (y l) (z l) (mx l) (my l) (mz l)) := by
  unfold k0_pay34
  have hd : k0_pay33 mx my mz x y z l = dist2 (x l) (y l) (z l) (mx l) (my l) (mz l) := by
    unfold k0_pay33
    simp only [shapeCast_self]
    rfl
  generalize k0_pay33 mx my mz x y z = w at hd ⊢
  rw [← hd]
  unfold k0_pay38 k0_pay36 k0_pay37 k0_pay35 k0_pay19
  simp only [shapeCast_self]
  simp only [addi_step]
  exact select_step _ _ _ l _ rfl rfl

/-- The mean a lane of the slow loop takes on the first axis. -/
theorem slowMean0 (v : Vec F S16 .i32) (m : Fin 8 → Vec F S16 .f32) (l : S16.Idx) :
    k0_pay30 (k0_pay19 (F := F) v) (k0_pay23 v (m 0) (m 1) (m 2) (m 3)) (m 4) (m 5) (m 6) (m 7) l = pickMean (v l) fun k => m k l := by
  unfold k0_pay30 k0_pay29 k0_pay28 k0_pay27 k0_pay26 k0_pay23 k0_pay22 k0_pay21 k0_pay20 k0_pay19
  simp only [shapeCast_self]
  rfl

/-- The mean a lane of the slow loop takes on the second axis. -/
theorem slowMean1 (v : Vec F S16 .i32) (m : Fin 8 → Vec F S16 .f32) (l : S16.Idx) :
    k0_pay31 (k0_pay19 (F := F) v) (k0_pay24 v (m 0) (m 1) (m 2) (m 3)) (m 4) (m 5) (m 6) (m 7) l = pickMean (v l) fun k => m k l := by
  unfold k0_pay31 k0_pay29 k0_pay28 k0_pay27 k0_pay26 k0_pay24 k0_pay22 k0_pay21 k0_pay20 k0_pay19
  simp only [shapeCast_self]
  rfl

/-- The mean a lane of the slow loop takes on the third axis. -/
theorem slowMean2 (v : Vec F S16 .i32) (m : Fin 8 → Vec F S16 .f32) (l : S16.Idx) :
    k0_pay32 (k0_pay19 (F := F) v) (k0_pay25 v (m 0) (m 1) (m 2) (m 3)) (m 4) (m 5) (m 6) (m 7) l = pickMean (v l) fun k => m k l := by
  unfold k0_pay32 k0_pay29 k0_pay28 k0_pay27 k0_pay26 k0_pay25 k0_pay22 k0_pay21 k0_pay20 k0_pay19
  simp only [shapeCast_self]
  rfl

end Cert.Proof.Bin

end
-- ==== Proof.Inner.lean ====
/-
  The two inner loops of the binning kernel on one tile: each walks the 2000 points of a block sixteen at a time and
  leaves the block's segment words in the tile's own output buffer.
-/
module

public import proofs.«01_k».proof.Proof.Words

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The tile and its buffers -/

/-- The SparseCore, the tile and the thread of grid point `L`. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The kernel's operands and scratch buffers as the body names them. -/
abbrev xsM : Memref sig .scVector .hbm S1000000 .i32 := Memref.whole main_v1_scv
abbrev ysM : Memref sig .scVector .hbm S1000000 .i32 := Memref.whole main_v3_scv
abbrev zsM : Memref sig .scVector .hbm S1000000 .i32 := Memref.whole main_v5_scv
abbrev bsM : Memref sig .scVector .hbm S1000000 .i32 := Memref.whole main_arg2_scv
abbrev msM : Memref sig .scVector .hbm S384 .f32 := Memref.whole main_v31_scv
abbrev sgM : Memref sig .scVector .hbm S1000000 .i32 := Memref.whole main_v32_scv
abbrev xbM : Memref sig .scVector .vmem S2000 .i32 := Memref.whole cc0_scratch0
abbrev ybM : Memref sig .scVector .vmem S2000 .i32 := Memref.whole cc0_scratch1
abbrev zbM : Memref sig .scVector .vmem S2000 .i32 := Memref.whole cc0_scratch2
abbrev bbM : Memref sig .scVector .vmem S2000 .i32 := Memref.whole cc0_scratch3
abbrev sbM : Memref sig .scVector .vmem S2000 .i32 := Memref.whole cc0_scratch4
abbrev mbM : Memref sig .scVector .vmem S384 .f32 := Memref.whole cc0_scratch5

variable [FloatOps F]

/-- The bodies of the two inner loops at the launch's own arguments. -/
abbrev fastBody (L : grid0.Coords) (v13 : Vec F S16 .i32) (a b c : Vec F S16 .f32) :=
  k0_t2_body (F := F) L xsM (Memref.isWhole_whole _) ysM (Memref.isWhole_whole _) zsM (Memref.isWhole_whole _) bsM (Memref.isWhole_whole _)
    msM (Memref.isWhole_whole _) sgM (Memref.isWhole_whole _) xbM (Memref.isWhole_whole _) ybM (Memref.isWhole_whole _)
    zbM (Memref.isWhole_whole _) bbM (Memref.isWhole_whole _) sbM (Memref.isWhole_whole _) mbM (Memref.isWhole_whole _)
    cc0_scoped0 cc0_scoped1 cc0_scoped2 cc0_scoped3 cc0_scoped4 cc0_scoped5 cc0_scoped6 cc0_scoped7 cc0_scoped8 cc0_scoped9 cc0_scoped10
    v13 a b c
abbrev slowBody (L : grid0.Coords) :=
  k0_t3_body (F := F) L xsM (Memref.isWhole_whole _) ysM (Memref.isWhole_whole _) zsM (Memref.isWhole_whole _) bsM (Memref.isWhole_whole _)
    msM (Memref.isWhole_whole _) sgM (Memref.isWhole_whole _) xbM (Memref.isWhole_whole _) ybM (Memref.isWhole_whole _)
    zbM (Memref.isWhole_whole _) bbM (Memref.isWhole_whole _) sbM (Memref.isWhole_whole _) mbM (Memref.isWhole_whole _)
    cc0_scoped0 cc0_scoped1 cc0_scoped2 cc0_scoped3 cc0_scoped4 cc0_scoped5 cc0_scoped6 cc0_scoped7 cc0_scoped8 cc0_scoped9 cc0_scoped10

/-! ## What the loops leave -/

/-- The lane point `j` of a block falls into. -/
def laneOf (j : S2000.Idx) : S16.Idx := lane ⟨(j 0).val % 16, Nat.mod_lt _ (by decide)⟩

/-- Element `n` of the means' table. -/
def at384 (n : ℕ) (h : n < 384) : S384.Idx := fun a => match a with | 0 => ⟨n, h⟩

/-- The block's words when every point takes one batch's mean. -/
def fastBlock (x y z : S2000.Idx → BitVec 32) (b : BitVec 32) (g : Fin 3 → S16.Idx → F .f32) : S2000.Idx → BitVec 32 := fun j =>
  segOf b (dist2 (x j) (y j) (z j) (g 0 (laneOf j)) (g 1 (laneOf j)) (g 2 (laneOf j)))

/-- Batch `k`'s mean on axis `a` as lane `l` reads it in the table. -/
def tableMean (t : S384.Idx → F .f32) (a : Fin 3) (l : S16.Idx) (k : Fin 8) : F .f32 :=
  t (at384 (128 * a.val + 16 * k.val + (l 0).val) (by have : (l 0).val < 16 := (l 0).isLt; omega))

/-- The block's words when every point looks its own batch's mean up. -/
def slowBlock (x y z b : S2000.Idx → BitVec 32) (t : S384.Idx → F .f32) : S2000.Idx → BitVec 32 := fun j =>
  segOf (b j) (dist2 (x j) (y j) (z j) (pickMean (b j) (tableMean t 0 (laneOf j))) (pickMean (b j) (tableMean t 1 (laneOf j)))
    (pickMean (b j) (tableMean t 2 (laneOf j))))

omit [FloatOps F] in
/-- The block after `k` groups of sixteen: `G` on them, `f` on the rest. -/
def upTo (k : ℕ) (G f : S2000.Idx → BitVec 32) : S2000.Idx → BitVec 32 := fun j => if (j 0).val < 16 * k then G j else f j

omit [FloatOps F] in
/-- Lane `l` of group `k` of a block falls into lane `l`. -/
theorem laneOf_emb (off : Fin 1 → ℕ) (k : ℕ) (h : off = ![16 * k]) (hin : ∀ a, off a + S16.size a ≤ S2000.size a) (l : S16.Idx) :
    laneOf ((Rect.unit (s := S2000) off S16.size hin).emb l) = l := by
  subst h
  funext a
  match a with
  | 0 =>
    refine Fin.ext ?_
    show (16 * k + 1 * (l 0).val) % 16 = (l 0).val
    have : (l 0).val < 16 := (l 0).isLt
    omega

omit [FloatOps F] in
/-- Storing group `k`'s words moves the written part on by one group. -/
theorem upTo_write (k : ℕ) (G f : S2000.Idx → BitVec 32) (w : S16.Idx → BitVec 32) (off : Fin 1 → ℕ) (h : off = ![16 * k])
    (hin : ∀ a, off a + S16.size a ≤ S2000.size a) (hw : ∀ l, w l = G ((Rect.unit (s := S2000) off S16.size hin).emb l)) (j : S2000.Idx) :
    sbM.view.writes (Elt F) (upTo k G f) [⟨Rect.unit (s := S2000) off S16.size hin, w⟩] j = upTo (k + 1) G f j := by
  subst h
  show sbM.view.read (Elt F) (sbM.view.writes (Elt F) (upTo k G f) [⟨Rect.unit (s := S2000) _ S16.size hin, w⟩]) j = _
  by_cases hj : 16 * k ≤ (j 0).val ∧ (j 0).val < 16 * (k + 1)
  · rw [View.read_writes_apply_of_pieces sbM.view _ G _ (fun p hp l => by
      obtain rfl := List.mem_singleton.mp hp; exact hw l) j ⟨_, List.mem_singleton.mpr rfl, ?_⟩]
    · rw [upTo, if_pos hj.2]
    · rw [Rect.mem_set_unit]
      intro a
      match a with
      | 0 => exact ⟨hj.1, by show (j 0).val < 16 * k + 16; omega⟩
  · rw [View.read_writes_apply_of_forall_not_mem]
    · show upTo k G f j = _
      unfold upTo
      by_cases h1 : (j 0).val < 16 * k
      · rw [if_pos h1, if_pos (by omega)]
      · rw [if_neg h1, if_neg (by omega)]
    · intro p hp
      obtain rfl := List.mem_singleton.mp hp
      rw [Rect.mem_set_unit]
      intro hm
      have h0 := hm 0
      have h1 : 16 * k ≤ (j 0).val := h0.1
      have h2 : (j 0).val < 16 * k + 16 := h0.2
      omega

/-- Sixteen entries of the table from entry `n` on. -/
abbrev tableVec (t : S384.Idx → F .f32) (n : ℕ) (hin : ∀ a, (![n] : Fin 1 → ℕ) a + S16.size a ≤ S384.size a) : Vec F S16 .f32 :=
  View.readAt (Elt F) mbM.view (Rect.unit (s := S384) ![n] S16.size hin).toLoadRect t

omit [FloatOps F] in
/-- Sixteen entries of the table read from entry `n` on. -/
theorem readTable (t : S384.Idx → F .f32) (n : ℕ) (hin : ∀ a, (![n] : Fin 1 → ℕ) a + S16.size a ≤ S384.size a) :
    View.readAt (Elt F) mbM.view (Rect.unit (s := S384) ![n] S16.size hin).toLoadRect t
      = fun l => t (at384 (n + (l 0).val) (lt_of_lt_of_le (Nat.add_lt_add_left (l 0).isLt n) (hin 0))) := by
  funext l
  show t ((Rect.unit (s := S384) ![n] S16.size hin).emb l) = _
  refine congrArg t (funext fun a => ?_)
  match a with
  | 0 => exact Fin.ext (show n + 1 * (l 0).val = n + (l 0).val by omega)

section Run
variable (d : Dev nD) (L : grid0.Coords)

/-- Before group `k` of the fast loop: the coordinates, and the words of the groups before. -/
def fastInv (x y z f G : S2000.Idx → BitVec 32) (k : ℕ) (_ : PUnit.{1}) : sProp (MM F) :=
  iprop((xbM.view.loc (VT d L) ↦{fullShare} x) ∗ (ybM.view.loc (VT d L) ↦{fullShare} y) ∗ (zbM.view.loc (VT d L) ↦{fullShare} z)
    ∗ (sbM.view.loc (VT d L) ↦{fullShare} upTo k G f))

/-- The fast loop leaves the block's words. -/
theorem fast_run (x y z f : S2000.Idx → BitVec 32) (v13 : Vec F S16 .i32) (a b c : Vec F S16 .f32) :
    (iprop((xbM.view.loc (VT d L) ↦{fullShare} x) ∗ (ybM.view.loc (VT d L) ↦{fullShare} y) ∗ (zbM.view.loc (VT d L) ↦{fullShare} z)
        ∗ (sbM.view.loc (VT d L) ↦{fullShare} f)) : sProp (MM F))
      ⊢ wp frame (wpE (defs₀ (F := F)) 𝒱₀ (VT d L) none) Set.univ (Scf.Loop.for k0_t2_loop k0_t2_ok ⟨⟩ (fastBody L v13 a b c))
          fun _ => fastInv d L x y z f (fastBlock x y z (v13 (lane 0)) ![a, b, c]) 125 ⟨⟩ := by
  iintro ⟨HX, HY, HZ, HS⟩
  sl_for (fastInv d L x y z f (fastBlock x y z (v13 (lane 0)) ![a, b, c])) $$ [HX HY HZ HS]
  case region =>
    intro k _
    unfold fastInv
    iintro ⟨HX, HY, HZ, HS⟩
    sl_exec
    have hw : ∀ l, fast_run.sl.r_5 x y z v13 a b c k l
        = fastBlock x y z (v13 (lane 0)) ![a, b, c] ((Rect.unit (s := S2000) (k0_off4 k) S16.size (k0_off4_inb k)).emb l) := by
      intro l
      unfold fast_run.sl.r_5 fast_run.sl.r_4 fast_run.sl.r_3 fast_run.sl.r_2 fast_run.sl.r_1 fast_run.sl.r
      refine (fastWords v13 a b c _ _ _ l).trans ?_
      unfold fastBlock
      rw [laneOf_emb _ k.val (k0_off4_eq k)]
      rfl
    sl_step
    isplitl [HX]; · iexact HX
    isplitl [HY]; · iexact HY
    isplitl [HZ]; · iexact HZ
    iapply (Entails.of_eq (pointsTo_congr fun j _ => upTo_write k.val _ _ _ _ (k0_off4_eq k) (k0_off4_inb k) hw j)) $$ HS
  · unfold fastInv
    isplitl [HX HY HZ HS]
    · isplitl [HX]; · iexact HX
      isplitl [HY]; · iexact HY
      isplitl [HZ]; · iexact HZ
      iapply (Entails.of_eq (pointsTo_congr fun j _ => by simp [upTo])) $$ HS
    · iintro %_ HI
      iexact HI

/-- Before group `k` of the slow loop. -/
def slowInv (x y z b : S2000.Idx → BitVec 32) (t : S384.Idx → F .f32) (f G : S2000.Idx → BitVec 32) (k : ℕ) (_ : PUnit.{1}) : sProp (MM F) :=
  iprop((xbM.view.loc (VT d L) ↦{fullShare} x) ∗ (ybM.view.loc (VT d L) ↦{fullShare} y) ∗ (zbM.view.loc (VT d L) ↦{fullShare} z)
    ∗ (bbM.view.loc (VT d L) ↦{fullShare} b) ∗ (mbM.view.loc (VT d L) ↦{fullShare} t)
    ∗ (sbM.view.loc (VT d L) ↦{fullShare} upTo k G f))

/-- The slow loop leaves the block's words. -/
theorem slow_run (x y z b f : S2000.Idx → BitVec 32) (t : S384.Idx → F .f32) :
    (iprop((xbM.view.loc (VT d L) ↦{fullShare} x) ∗ (ybM.view.loc (VT d L) ↦{fullShare} y) ∗ (zbM.view.loc (VT d L) ↦{fullShare} z)
        ∗ (bbM.view.loc (VT d L) ↦{fullShare} b) ∗ (mbM.view.loc (VT d L) ↦{fullShare} t)
        ∗ (sbM.view.loc (VT d L) ↦{fullShare} f)) : sProp (MM F))
      ⊢ wp frame (wpE (defs₀ (F := F)) 𝒱₀ (VT d L) none) Set.univ (Scf.Loop.for k0_t3_loop k0_t3_ok ⟨⟩ (slowBody L))
          fun _ => slowInv d L x y z b t f (slowBlock x y z b t) 125 ⟨⟩ := by
  iintro ⟨HX, HY, HZ, HB, HT, HS⟩
  sl_for (slowInv d L x y z b t f (slowBlock x y z b t)) $$ [HX HY HZ HB HT HS]
  case region =>
    intro k _
    unfold slowInv
    iintro ⟨HX, HY, HZ, HB, HT, HS⟩
    sl_exec
    have hw : ∀ l, slow_run.sl.r_4 x y z b t k l
        = slowBlock x y z b t ((Rect.unit (s := S2000) (k0_off5 k) S16.size (k0_off5_inb k)).emb l) := by
      intro l
      unfold slow_run.sl.r_4 slow_run.sl.r_3 slow_run.sl.r_2 slow_run.sl.r_1 slow_run.sl.r
      refine (slowWords _ _ _ _ _ _ _ l).trans ?_
      have h0 : slow_run.sl.v106 b t k l = pickMean (b ((Rect.unit (s := S2000) (k0_off5 k) S16.size (k0_off5_inb k)).emb l)) (tableMean t 0 l) := by
        have e : slow_run.sl.v106 b t k = k0_pay30 (k0_pay19 (View.readAt (Elt F) bbM.view (Rect.unit (s := S2000) (k0_off5 k) S16.size (k0_off5_inb k)).toLoadRect b))
            (k0_pay23 (View.readAt (Elt F) bbM.view (Rect.unit (s := S2000) (k0_off5 k) S16.size (k0_off5_inb k)).toLoadRect b)
              (tableVec t 0 (by decide)) (tableVec t 16 (by decide)) (tableVec t 32 (by decide)) (tableVec t 48 (by decide))) (tableVec t 64 (by decide)) (tableVec t 80 (by decide)) (tableVec t 96 (by decide)) (tableVec t 112 (by decide)) := rfl
        rw [e]
        simp only [readTable]
        exact slowMean0 _ (fun k l => tableMean t 0 l k) l
      have h1 : slow_run.sl.v109 b t k l = pickMean (b ((Rect.unit (s := S2000) (k0_off5 k) S16.size (k0_off5_inb k)).emb l)) (tableMean t 1 l) := by
        have e : slow_run.sl.v109 b t k = k0_pay31 (k0_pay19 (View.readAt (Elt F) bbM.view (Rect.unit (s := S2000) (k0_off5 k) S16.size (k0_off5_inb k)).toLoadRect b))
            (k0_pay24 (View.readAt (Elt F) bbM.view (Rect.unit (s := S2000) (k0_off5 k) S16.size (k0_off5_inb k)).toLoadRect b)
              (tableVec t 128 (by decide)) (tableVec t 144 (by decide)) (tableVec t 160 (by decide)) (tableVec t 176 (by decide))) (tableVec t 192 (by decide)) (tableVec t 208 (by decide)) (tableVec t 224 (by decide)) (tableVec t 240 (by decide)) := rfl
        rw [e]
        simp only [readTable]
        exact slowMean1 _ (fun k l => tableMean t 1 l k) l
      have h2 : slow_run.sl.v112 b t k l = pickMean (b ((Rect.unit (s := S2000) (k0_off5 k) S16.size (k0_off5_inb k)).emb l)) (tableMean t 2 l) := by
        have e : slow_run.sl.v112 b t k = k0_pay32 (k0_pay19 (View.readAt (Elt F) bbM.view (Rect.unit (s := S2000) (k0_off5 k) S16.size (k0_off5_inb k)).toLoadRect b))
            (k0_pay25 (View.readAt (Elt F) bbM.view (Rect.unit (s := S2000) (k0_off5 k) S16.size (k0_off5_inb k)).toLoadRect b)
              (tableVec t 256 (by decide)) (tableVec t 272 (by decide)) (tableVec t 288 (by decide)) (tableVec t 304 (by decide))) (tableVec t 320 (by decide)) (tableVec t 336 (by decide)) (tableVec t 352 (by decide)) (tableVec t 368 (by decide)) := rfl
        rw [e]
        simp only [readTable]
        exact slowMean2 _ (fun k l => tableMean t 2 l k) l
      rw [h0, h1, h2]
      unfold slowBlock
      rw [laneOf_emb _ k.val (k0_off5_eq k)]
      rfl
    sl_step
    isplitl [HX]; · iexact HX
    isplitl [HY]; · iexact HY
    isplitl [HZ]; · iexact HZ
    isplitl [HB]; · iexact HB
    isplitl [HT]; · iexact HT
    iapply (Entails.of_eq (pointsTo_congr fun j _ => upTo_write k.val _ _ _ _ (k0_off5_eq k) (k0_off5_inb k) hw j)) $$ HS
  · unfold slowInv
    isplitl [HX HY HZ HB HT HS]
    · isplitl [HX]; · iexact HX
      isplitl [HY]; · iexact HY
      isplitl [HZ]; · iexact HZ
      isplitl [HB]; · iexact HB
      isplitl [HT]; · iexact HT
      iapply (Entails.of_eq (pointsTo_congr fun j _ => by simp [upTo])) $$ HS
    · iintro %_ HI
      iexact HI

end Run

end Cert.Proof.Bin

end
-- ==== Proof.Tile.lean ====
/-
  The binning kernel on one tile: the table of means comes in, then each trip of the outer loop brings one block of 2000
  points in, labels it by one of the two inner loops and writes it out.
-/
module

public import proofs.«01_k».proof.Proof.Inner

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The labels of a block -/

/-- Point `n` of the million, point `n` of a block. -/
def atPt (n : ℕ) : S1000000.Idx := fun a => match a with | 0 => ⟨n % 1000000, Nat.mod_lt _ (by decide)⟩
def atRow (n : ℕ) : S2000.Idx := fun a => match a with | 0 => ⟨n % 2000, Nat.mod_lt _ (by decide)⟩

/-- Block `n` of an array of points. -/
def blockOf (A : S1000000.Idx → BitVec 32) (n : ℕ) : S2000.Idx → BitVec 32 := fun j => A (atPt (2000 * n + (j 0).val))

variable [FloatOps F]

/-- What the kernel leaves for a block of points `x`, `y`, `z` of batches `b`: when the first and the last point are of
    one batch, all take that batch's mean. -/
def labels (x y z b : S2000.Idx → BitVec 32) (t : S384.Idx → F .f32) : S2000.Idx → BitVec 32 :=
  if b (atRow 0) = b (atRow 1999) then
    fastBlock x y z (b (atRow 0)) fun a l => tableMean t a l ⟨(b (atRow 0)).toNat % 8, Nat.mod_lt _ (by decide)⟩
  else slowBlock x y z b t

/-- What the kernel leaves for all points. -/
def labelsAll (x y z b : S1000000.Idx → BitVec 32) (t : S384.Idx → F .f32) : S1000000.Idx → BitVec 32 := fun j =>
  labels (blockOf x ((j 0).val / 2000)) (blockOf y ((j 0).val / 2000)) (blockOf z ((j 0).val / 2000)) (blockOf b ((j 0).val / 2000)) t
    (atRow (j 0).val)

/-- The points of tile `L`: its blocks are every thirty-second one. -/
def wid (L : grid0.Coords) : ℕ := 2 * (L 1).val + (L 0).val
def tileSet (w : ℕ) : Finset S1000000.Idx := Finset.univ.filter fun j => (j 0).val / 2000 % 32 = w

omit [FloatOps F] in
/-- The labels array after `t` trips of tile `w`. -/
def outAt (w t : ℕ) (G f : S1000000.Idx → BitVec 32) : S1000000.Idx → BitVec 32 := fun j => if (j 0).val / 2000 < w + 32 * t then G j else f j

section Run
variable (d : Dev nD) (L : grid0.Coords)

abbrev tripBody (L : grid0.Coords) :=
  k0_t1_body (F := F) L xsM (Memref.isWhole_whole _) ysM (Memref.isWhole_whole _) zsM (Memref.isWhole_whole _) bsM (Memref.isWhole_whole _)
    msM (Memref.isWhole_whole _) sgM (Memref.isWhole_whole _) xbM (Memref.isWhole_whole _) ybM (Memref.isWhole_whole _)
    zbM (Memref.isWhole_whole _) bbM (Memref.isWhole_whole _) sbM (Memref.isWhole_whole _) mbM (Memref.isWhole_whole _)
    cc0_scoped0 cc0_scoped1 cc0_scoped2 cc0_scoped3 cc0_scoped4 cc0_scoped5 cc0_scoped6 cc0_scoped7 cc0_scoped8 cc0_scoped9 cc0_scoped10

/-- The labels' block trip `t` writes. -/
abbrev outBlk (t : Fin (k0_t1_loop L).trips) : Memref sig .scVector .hbm S2000 .i32 :=
  sgM.slice (Rect.unit (s := S1000000) (k0_off6 L t) S2000.size (k0_off6_inb L t)) (fun _ => rfl)

/-- The six cells of the copies, at zero. -/
abbrev cells0 : sProp (MM F) :=
  iprop(semVal (VT d L, SemLoc.dma cc0_scoped0.sem) 0 ∗ semVal (VT d L, SemLoc.dma cc0_scoped1.sem) 0 ∗ semVal (VT d L, SemLoc.dma cc0_scoped2.sem) 0
    ∗ semVal (VT d L, SemLoc.dma cc0_scoped3.sem) 0 ∗ semVal (VT d L, SemLoc.dma cc0_scoped4.sem) 0 ∗ semVal (VT d L, SemLoc.dma cc0_scoped5.sem) 0)

omit [FloatOps F] in
/-- Element `j` of the block trip `t` reads. -/
theorem emb_in (t : Fin (k0_t1_loop L).trips) (j : S2000.Idx) :
    (Rect.unit (s := S1000000) (k0_off1 L t) S2000.size (k0_off1_inb L t)).emb j = atPt (2000 * (wid L + 32 * t.val) + (j 0).val) := by
  have h := k0_off1_eq L t
  have hin := k0_off1_inb L t 0
  rw [h] at hin
  funext a
  match a with
  | 0 =>
    refine Fin.ext ?_
    have hj : (j 0).val < 2000 := (j 0).isLt
    have hin : 4000 * (L 1).val + 2000 * (L 0).val + 64000 * t.val + 2000 ≤ 1000000 := hin
    show k0_off1 L t 0 + 1 * (j 0).val = (2000 * (2 * (L 1).val + (L 0).val + 32 * t.val) + (j 0).val) % 1000000
    rw [h]
    show 4000 * (L 1).val + 2000 * (L 0).val + 64000 * t.val + 1 * (j 0).val = _
    omega

omit [FloatOps F] in
theorem copied_x (t : Fin (k0_t1_loop L).trips) (A : S1000000.Idx → BitVec 32) (f : S2000.Idx → BitVec 32) :
    View.write (Elt F) xbM.view f (ReadAs.same.apply ((xsM.slice (Rect.unit (s := S1000000) (k0_off1 L t) S2000.size (k0_off1_inb L t)) (fun _ => rfl)).view.read (Elt F) A)) Finset.univ
      = blockOf A (wid L + 32 * t.val) := by
  rw [View.write_whole_univ]
  funext j
  exact congrArg A (emb_in L t j)
omit [FloatOps F] in
theorem copied_y (t : Fin (k0_t1_loop L).trips) (A : S1000000.Idx → BitVec 32) (f : S2000.Idx → BitVec 32) :
    View.write (Elt F) ybM.view f (ReadAs.same.apply ((ysM.slice (Rect.unit (s := S1000000) (k0_off1 L t) S2000.size (k0_off1_inb L t)) (fun _ => rfl)).view.read (Elt F) A)) Finset.univ
      = blockOf A (wid L + 32 * t.val) := copied_x L t A f
omit [FloatOps F] in
theorem copied_z (t : Fin (k0_t1_loop L).trips) (A : S1000000.Idx → BitVec 32) (f : S2000.Idx → BitVec 32) :
    View.write (Elt F) zbM.view f (ReadAs.same.apply ((zsM.slice (Rect.unit (s := S1000000) (k0_off1 L t) S2000.size (k0_off1_inb L t)) (fun _ => rfl)).view.read (Elt F) A)) Finset.univ
      = blockOf A (wid L + 32 * t.val) := copied_x L t A f
omit [FloatOps F] in
theorem copied_b (t : Fin (k0_t1_loop L).trips) (A : S1000000.Idx → BitVec 32) (f : S2000.Idx → BitVec 32) :
    View.write (Elt F) bbM.view f (ReadAs.same.apply ((bsM.slice (Rect.unit (s := S1000000) (k0_off1 L t) S2000.size (k0_off1_inb L t)) (fun _ => rfl)).view.read (Elt F) A)) Finset.univ
      = blockOf A (wid L + 32 * t.val) := copied_x L t A f

omit [FloatOps F] in
/-- Lane `l` of the sixteen batch numbers read from row `n` on. -/
theorem readRow (b : S2000.Idx → BitVec 32) (n : ℕ) (hin : ∀ a, (![n] : Fin 1 → ℕ) a + S16.size a ≤ S2000.size a) (l : Fin 16) {k : ℕ}
    (hk : (n + l.val) = k) :
    View.readAt (Elt F) bbM.view (Rect.unit (s := S2000) ![n] S16.size hin).toLoadRect b (lane l) = b (atRow k) := by
  show b ((Rect.unit (s := S2000) ![n] S16.size hin).emb (lane l)) = _
  refine congrArg b (funext fun a => ?_)
  match a with
  | 0 =>
    have hin : n + 16 ≤ 2000 := hin 0
    have := l.isLt
    exact Fin.ext (show n + 1 * l.val = k % 2000 by omega)

omit [FloatOps F] in
/-- The table's window on the first axis starts at sixteen times the batch number. -/
theorem off2_word (v : BitVec 32) (hv : v.toNat < 8) : k0_off2 v = ![16 * v.toNat] := by
  have h : ∀ n : Fin 8, k0_off2 (BitVec.ofNat 32 n.val) = ![16 * n.val] := by decide
  have hw : v = BitVec.ofNat 32 v.toNat := BitVec.eq_of_toNat_eq (by rw [BitVec.toNat_ofNat]; exact (Nat.mod_eq_of_lt v.isLt).symm)
  rw [hw]
  exact (h ⟨v.toNat, hv⟩).trans (by rw [← hw])

omit [FloatOps F] in
/-- The window on the other two axes. -/
theorem off3_word (v : BitVec 32) (hv : v.toNat < 8) (r : Fin 2) :
    k0_off3 v (BitVec.ofNat 32 (128 + 128 * r.val)) = ![128 + 128 * r.val + 16 * v.toNat] := by
  have h : ∀ (n : Fin 8) (r : Fin 2), k0_off3 (BitVec.ofNat 32 n.val) (BitVec.ofNat 32 (128 + 128 * r.val)) = ![128 + 128 * r.val + 16 * n.val] := by decide
  have hw : v = BitVec.ofNat 32 v.toNat := BitVec.eq_of_toNat_eq (by rw [BitVec.toNat_ofNat]; exact (Nat.mod_eq_of_lt v.isLt).symm)
  rw [hw]
  exact (h ⟨v.toNat, hv⟩ r).trans (by rw [← hw])

omit [FloatOps F] in
/-- A batch number below eight keeps the table's three windows inside it. -/
theorem chk_of_lt (v w : BitVec 32) (hv : v.toNat < 8) : k0_chk1 v w := by
  refine ⟨fun _ a => ?_, fun _ r a => ?_⟩
  · rw [off2_word v hv]
    match a with
    | 0 => show 16 * v.toNat + 16 ≤ 384; omega
  · rw [off3_word v hv r]
    have := r.isLt
    match a with
    | 0 => show 128 + 128 * r.val + 16 * v.toNat + 16 ≤ 384; omega

omit [FloatOps F] in
/-- The kernel's branch compares the two batch numbers. -/
theorem cond1_iff (v w : BitVec 32) : k0_cond1 v w = 1#1 ↔ v = w := by
  unfold k0_cond1
  simp only [Scalar.cmpi, IntOp.cmpi, Scalar.extui]
  by_cases h : v = w
  · subst h; simp
  · have : (v == w) = false := by simpa using h
    simp [this, h]

/-- Block `n`'s labels, of the arrays' block `n`. -/
abbrev blockLabels (XS YS ZS BS : S1000000.Idx → BitVec 32) (T : S384.Idx → F .f32) (n : ℕ) : S2000.Idx → BitVec 32 :=
  labels (blockOf XS n) (blockOf YS n) (blockOf ZS n) (blockOf BS n) T

omit [FloatOps F] in
/-- Element `j` of the block trip `t` writes. -/
theorem emb_out (t : Fin (k0_t1_loop L).trips) (j : S2000.Idx) :
    (outBlk L t).view.emb j = atPt (2000 * (wid L + 32 * t.val) + (j 0).val) := by
  refine Eq.trans ?_ (emb_in L t j)
  show (Rect.unit (s := S1000000) (k0_off6 L t) S2000.size (k0_off6_inb L t)).emb j = _
  have h : k0_off6 L t = k0_off1 L t := (k0_off6_eq L t).trans (k0_off1_eq L t).symm
  funext a
  exact Fin.ext (show k0_off6 L t a + 1 * (j a).val = k0_off1 L t a + 1 * (j a).val by rw [h])

omit [FloatOps F] in
/-- The trips stay inside the million points. -/
theorem trip_lt (t : Fin (k0_t1_loop L).trips) : wid L + 32 * t.val < 500 := by
  have hin := k0_off1_inb L t 0
  rw [k0_off1_eq L t] at hin
  have hin : 4000 * (L 1).val + 2000 * (L 0).val + 64000 * t.val + 2000 ≤ 1000000 := hin
  show 2 * (L 1).val + (L 0).val + 32 * t.val < 500
  omega

/-- A block of labels written out is that block of all labels. -/
theorem out_write (t : Fin (k0_t1_loop L).trips) (XS YS ZS BS : S1000000.Idx → BitVec 32) (T : S384.Idx → F .f32)
    (fo : S1000000.Idx → BitVec 32) (w : S2000.Idx → BitVec 32) (hw : w = blockLabels XS YS ZS BS T (wid L + 32 * t.val)) :
    ∀ i ∈ (outBlk L t).view.set,
      (outBlk L t).view.writes (Elt F) fo [⟨Rect.whole S2000, ReadAs.same.apply (sbM.view.read (Elt F) w)⟩] i = labelsAll XS YS ZS BS T i := by
  subst hw
  intro i hi
  rw [← View.write_univ_eq_writes_whole (outBlk L t).view fo [] (ReadAs.same.apply (sbM.view.read (Elt F) (blockLabels XS YS ZS BS T (wid L + 32 * t.val)))), View.writes_nil]
  obtain ⟨j, -, rfl⟩ := Finset.mem_map.mp hi
  rw [View.write_emb_of_mem _ _ (Finset.mem_univ j)]
  have hj : (j 0).val < 2000 := (j 0).isLt
  have ht := trip_lt L t
  show blockLabels XS YS ZS BS T (wid L + 32 * t.val) j = labelsAll XS YS ZS BS T ((outBlk L t).view.emb j)
  rw [emb_out]
  have h0 : (atPt (2000 * (wid L + 32 * t.val) + (j 0).val) 0).val = 2000 * (wid L + 32 * t.val) + (j 0).val :=
    Nat.mod_eq_of_lt (by omega)
  unfold labelsAll
  rw [h0, show (2000 * (wid L + 32 * t.val) + (j 0).val) / 2000 = wid L + 32 * t.val by omega]
  refine congrArg _ (funext fun a => ?_)
  match a with
  | 0 => exact Fin.ext (show (j 0).val = (2000 * (wid L + 32 * t.val) + (j 0).val) % 2000 by omega)

omit [FloatOps F] in
/-- A hundred and twenty-five groups are the block. -/
theorem upTo_all (G f : S2000.Idx → BitVec 32) : upTo 125 G f = G := by
  funext j
  have : (j 0).val < 2000 := (j 0).isLt
  exact if_pos (by omega)

/-- The slow loop's words are the labels of a block of several batches. -/
theorem labels_slow (XS YS ZS BS : S1000000.Idx → BitVec 32) (T : S384.Idx → F .f32) (n : ℕ) (f : S2000.Idx → BitVec 32)
    (h : blockOf BS n (atRow 0) ≠ blockOf BS n (atRow 1999)) :
    upTo 125 (slowBlock (blockOf XS n) (blockOf YS n) (blockOf ZS n) (blockOf BS n) T) f = blockLabels XS YS ZS BS T n := by
  rw [upTo_all]
  exact (if_neg h).symm

/-- The fast loop's words are the labels of a block of one batch. -/
theorem labels_fast (XS YS ZS BS : S1000000.Idx → BitVec 32) (T : S384.Idx → F .f32) (n : ℕ) (f : S2000.Idx → BitVec 32)
    (h : blockOf BS n (atRow 0) = blockOf BS n (atRow 1999)) (hlt : (blockOf BS n (atRow 0)).toNat < 8) (v : BitVec 32)
    (hv : v = blockOf BS n (atRow 0)) (a b c : Vec F S16 .f32)
    (ha : ∀ l, a l = T (at384 (16 * (blockOf BS n (atRow 0)).toNat + (l 0).val) (by have : (l 0).val < 16 := (l 0).isLt; omega)))
    (hb : ∀ l, b l = T (at384 (128 + 16 * (blockOf BS n (atRow 0)).toNat + (l 0).val) (by have : (l 0).val < 16 := (l 0).isLt; omega)))
    (hc : ∀ l, c l = T (at384 (256 + 16 * (blockOf BS n (atRow 0)).toNat + (l 0).val) (by have : (l 0).val < 16 := (l 0).isLt; omega))) :
    upTo 125 (fastBlock (blockOf XS n) (blockOf YS n) (blockOf ZS n) v ![a, b, c]) f = blockLabels XS YS ZS BS T n := by
  rw [upTo_all, blockLabels, labels, if_pos h, hv]
  have e : (blockOf BS n (atRow 0)).toNat % 8 = (blockOf BS n (atRow 0)).toNat := Nat.mod_eq_of_lt hlt
  have hg : (![a, b, c] : Fin 3 → S16.Idx → F .f32)
      = fun x l => tableMean T x l ⟨(blockOf BS n (atRow 0)).toNat % 8, Nat.mod_lt _ (by decide)⟩ := by
    funext x l
    unfold tableMean
    simp only [e]
    match x with
    | 0 => exact (ha l).trans (congrArg T (funext fun | 0 => Fin.ext (by show _ = 128 * 0 + 16 * ((blockOf BS n (atRow 0)).toNat % 8) + (l 0).val; rw [e]; simp [at384])))
    | 1 => exact (hb l).trans (congrArg T (funext fun | 0 => Fin.ext (by show _ = 128 * 1 + 16 * ((blockOf BS n (atRow 0)).toNat % 8) + (l 0).val; rw [e]; simp [at384])))
    | 2 => exact (hc l).trans (congrArg T (funext fun | 0 => Fin.ext (by show _ = 128 * 2 + 16 * ((blockOf BS n (atRow 0)).toNat % 8) + (l 0).val; rw [e]; simp [at384])))
  rw [hg]

omit [FloatOps F] in
/-- Sixteen entries of the table read at a window whose start is known. -/
theorem readAtTable (t : S384.Idx → F .f32) (off : Fin 1 → ℕ) (hin : ∀ a, off a + S16.size a ≤ S384.size a) (n : ℕ) (h : off = ![n]) (l : S16.Idx) :
    View.readAt (Elt F) mbM.view (Rect.unit (s := S384) off S16.size hin).toLoadRect t l
      = t (at384 (n + (l 0).val) (by subst h; exact lt_of_lt_of_le (Nat.add_lt_add_left (l 0).isLt n) (hin 0))) := by
  subst h
  rw [readTable]

/-- One trip. -/
theorem trip_run (O : CellTallies nD τ sig (HIx 1)) (W : Waits sig (HIx 1)) (q : PosShare TreeShare)
    (XS YS ZS BS : S1000000.Idx → BitVec 32) (T : S384.Idx → F .f32) (hB : ∀ j, (BS j).toNat < 8)
    (t : Fin (k0_t1_loop L).trips) (fx fy fz fb fs : S2000.Idx → BitVec 32) (fo : S1000000.Idx → BitVec 32) :
    (iprop(Transfers.MayWaits (VT d L) (default : HIx 1) O
        ∗ (xsM.view.loc (VT d L) ↦{q} XS) ∗ (ysM.view.loc (VT d L) ↦{q} YS) ∗ (zsM.view.loc (VT d L) ↦{q} ZS) ∗ (bsM.view.loc (VT d L) ↦{q} BS)
        ∗ (xbM.view.loc (VT d L) ↦{fullShare} fx) ∗ (ybM.view.loc (VT d L) ↦{fullShare} fy) ∗ (zbM.view.loc (VT d L) ↦{fullShare} fz)
        ∗ (bbM.view.loc (VT d L) ↦{fullShare} fb) ∗ (sbM.view.loc (VT d L) ↦{fullShare} fs) ∗ (mbM.view.loc (VT d L) ↦{fullShare} T)
        ∗ ((outBlk L t).view.loc (VT d L) ↦[(outBlk L t).view.set]{fullShare} fo)
        ∗ cells0 d L
        ∗ owes (VT d L) O W) : sProp (MM F))
      ⊢ wp frame (wpE (defs₀ (F := F)) 𝒱₀ (VT d L) none) Set.univ (tripBody L t ())
          fun _ => iprop((xsM.view.loc (VT d L) ↦{q} XS) ∗ (ysM.view.loc (VT d L) ↦{q} YS) ∗ (zsM.view.loc (VT d L) ↦{q} ZS)
            ∗ (bsM.view.loc (VT d L) ↦{q} BS)
            ∗ (∃ f, xbM.view.loc (VT d L) ↦{fullShare} f) ∗ (∃ f, ybM.view.loc (VT d L) ↦{fullShare} f)
            ∗ (∃ f, zbM.view.loc (VT d L) ↦{fullShare} f) ∗ (∃ f, bbM.view.loc (VT d L) ↦{fullShare} f)
            ∗ (∃ f, sbM.view.loc (VT d L) ↦{fullShare} f) ∗ (mbM.view.loc (VT d L) ↦{fullShare} T)
            ∗ ((outBlk L t).view.loc (VT d L) ↦[(outBlk L t).view.set]{fullShare} labelsAll XS YS ZS BS T)
            ∗ cells0 d L
            ∗ ∃ W', ⌜∀ p ∈ W', p ∈ W ∨ p.2 = none⌝ ∗ owes (VT d L) O W') := by
  iintro ⟨#Hmw, HX, HY, HZ, HB, Hx, Hy, Hz, Hb, Hs, HT, Ho, ⟨Hc0, Hc1, Hc2, Hc3, Hc4, Hc5⟩, HO⟩
  sl_unfold [tripBody, k0_t1_body]
  sl_exec (disch := exact View.amount_pos _ _ (show 0 < S2000.numel by decide))
  have ex : View.write (Elt F) xbM.view fx (trip_run.sl.dma0 L XS t) Finset.univ = blockOf XS (wid L + 32 * t.val) := copied_x L t XS fx
  have ey : View.write (Elt F) ybM.view fy (trip_run.sl.dma0_1 L YS t) Finset.univ = blockOf YS (wid L + 32 * t.val) := copied_y L t YS fy
  have ez : View.write (Elt F) zbM.view fz (trip_run.sl.dma0_2 L ZS t) Finset.univ = blockOf ZS (wid L + 32 * t.val) := copied_z L t ZS fz
  have eb : View.write (Elt F) bbM.view fb (trip_run.sl.dma0_3 L BS t) Finset.univ = blockOf BS (wid L + 32 * t.val) := copied_b L t BS fb
  ihave Hx := (Entails.of_eq (congrArg (fun g => (xbM.view.loc (VT d L) ↦{fullShare} g : sProp (MM F))) ex)) $$ Hx
  ihave Hy := (Entails.of_eq (congrArg (fun g => (ybM.view.loc (VT d L) ↦{fullShare} g : sProp (MM F))) ey)) $$ Hy
  ihave Hz := (Entails.of_eq (congrArg (fun g => (zbM.view.loc (VT d L) ↦{fullShare} g : sProp (MM F))) ez)) $$ Hz
  ihave Hb := (Entails.of_eq (congrArg (fun g => (bbM.view.loc (VT d L) ↦{fullShare} g : sProp (MM F))) eb)) $$ Hb
  have e16 : trip_run.sl.v16 (F := F) L BS t fb = blockOf BS (wid L + 32 * t.val) (atRow 0) := by
    unfold trip_run.sl.v16
    rw [firstLane, eb]
    exact readRow _ 0 _ _ rfl
  have e20 : trip_run.sl.v20 (F := F) L BS t fb = blockOf BS (wid L + 32 * t.val) (atRow 1999) := by
    unfold trip_run.sl.v20
    rw [lastLane, eb]
    exact readRow _ 1984 _ _ rfl
  have hlt : (trip_run.sl.v16 (F := F) L BS t fb).toNat < 8 := by rw [e16]; exact hB _
  have hchk : k0_chk1 (trip_run.sl.v16 (F := F) L BS t fb) (trip_run.sl.v20 (F := F) L BS t fb) := chk_of_lt _ _ hlt
  rcases Classical.em (k0_cond1 (trip_run.sl.v16 (F := F) L BS t fb) (trip_run.sl.v20 (F := F) L BS t fb) = 1#1) with hc | hc
  · have hbb := (cond1_iff _ _).mp hc
    sl_exec (disch := first | sl_exact hc | exact View.amount_pos _ _ (show 0 < S2000.numel by decide))
    rw [wp_bind]
    iapply (wp_wand_r Idealize.ShloMosaic.frame (wpE (defs₀ (F := F)) 𝒱₀ (VT d L) none) Set.univ)
    isplitl [Hx Hy Hz Hs]
    · iapply (fast_run d L _ _ _ fs _ _ _ _)
      isplitl [Hx]; · iexact Hx
      isplitl [Hy]; · iexact Hy
      isplitl [Hz]; · iexact Hz
      iexact Hs
    iintro %_ HI
    unfold fastInv
    icases HI with ⟨Hx, Hy, Hz, Hs⟩
    have ev : View.readAt (Elt F) bbM.view (Rect.unit (s := S2000) ![0] S16.size inb_S2000_S16_0).toLoadRect
        (View.write (Elt F) bbM.view fb (trip_run.sl.dma0_3 L BS t) Finset.univ) (lane 0) = blockOf BS (wid L + 32 * t.val) (atRow 0) :=
      (readRow _ 0 _ 0 rfl).trans (congrFun eb (atRow 0))
    have ho := out_write L t XS YS ZS BS T fo _ (labels_fast XS YS ZS BS T (wid L + 32 * t.val) fs (by rw [← e16, ← e20]; exact hbb)
      (by rw [← e16]; exact hlt) _ ev
      (trip_run.sl.v27 L BS T t fb hchk hc) (trip_run.sl.v32 L BS T t fb hchk hc) (trip_run.sl.v37 L BS T t fb hchk hc)
      (readAtTable T _ _ _ ((off2_word _ hlt).trans (by rw [e16])))
      (readAtTable T _ _ _ ((off3_word _ hlt 0).trans (by rw [e16]; rfl)))
      (readAtTable T _ _ _ ((off3_word _ hlt 1).trans (by rw [e16]; rfl))))
    sl_exec (disch := first | sl_exact hc | exact View.amount_pos _ _ (show 0 < S2000.numel by decide))
    sl_step
    isplitl [HX]; · iexact HX
    isplitl [HY]; · iexact HY
    isplitl [HZ]; · iexact HZ
    isplitl [HB]; · iexact HB
    isplitl [Hx]; · iexists _; iexact Hx
    isplitl [Hy]; · iexists _; iexact Hy
    isplitl [Hz]; · iexists _; iexact Hz
    isplitl [Hb]; · iexists _; iexact Hb
    isplitl [Hs]; · iexists _; iexact Hs
    isplitl [HT]; · iexact HT
    isplitl [Ho]; · iapply (Entails.of_eq (pointsTo_congr ho)) $$ Ho
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; isplitr
    swap; · iexact HO
    ipureintro
    simp only [Finset.mem_insert]
    rintro p (rfl | rfl | rfl | rfl | rfl | hp) <;> first | exact .inr rfl | exact .inl hp
  · have hbb := fun h => hc ((cond1_iff _ _).mpr h)
    sl_exec (disch := first | sl_exact hc | exact View.amount_pos _ _ (show 0 < S2000.numel by decide))
    rw [wp_bind]
    iapply (wp_wand_r Idealize.ShloMosaic.frame (wpE (defs₀ (F := F)) 𝒱₀ (VT d L) none) Set.univ)
    isplitl [Hx Hy Hz Hb HT Hs]
    · iapply (slow_run d L _ _ _ _ fs _)
      isplitl [Hx]; · iexact Hx
      isplitl [Hy]; · iexact Hy
      isplitl [Hz]; · iexact Hz
      isplitl [Hb]; · iexact Hb
      isplitl [HT]; · iexact HT
      iexact Hs
    iintro %_ HI
    unfold slowInv
    icases HI with ⟨Hx, Hy, Hz, Hb, HT, Hs⟩
    have ho := out_write L t XS YS ZS BS T fo _ (labels_slow XS YS ZS BS T _ fs (by rw [← e16, ← e20]; exact hbb))
    sl_exec (disch := first | sl_exact hc | exact View.amount_pos _ _ (show 0 < S2000.numel by decide))
    sl_step
    isplitl [HX]; · iexact HX
    isplitl [HY]; · iexact HY
    isplitl [HZ]; · iexact HZ
    isplitl [HB]; · iexact HB
    isplitl [Hx]; · iexists _; iexact Hx
    isplitl [Hy]; · iexists _; iexact Hy
    isplitl [Hz]; · iexists _; iexact Hz
    isplitl [Hb]; · iexists _; iexact Hb
    isplitl [Hs]; · iexists _; iexact Hs
    isplitl [HT]; · iexact HT
    isplitl [Ho]; · iapply (Entails.of_eq (pointsTo_congr ho)) $$ Ho
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; isplitr
    swap; · iexact HO
    ipureintro
    simp only [Finset.mem_insert]
    rintro p (rfl | rfl | rfl | rfl | rfl | hp) <;> first | exact .inr rfl | exact .inl hp

omit [FloatOps F] in
/-- The trips reach the last block. -/
theorem trips_reach : 500 ≤ wid L + 32 * (k0_t1_loop L).trips := by
  have h : ∀ L : grid0.Coords, 500 ≤ 2 * (L 1).val + (L 0).val + 32 * (k0_t1_loop L).trips := by decide +kernel
  exact h L

omit [FloatOps F] in
/-- Before the first trip nothing is labelled. -/
theorem outAt_init (G f : S1000000.Idx → BitVec 32) (i : S1000000.Idx) (hi : i ∈ tileSet (wid L)) : f i = outAt (wid L) 0 G f i := by
  have hm := (Finset.mem_filter.mp hi).2
  have := Nat.mod_le ((i 0).val / 2000) 32
  exact (if_neg (by omega)).symm

omit [FloatOps F] in
/-- After the last trip every point of the tile is. -/
theorem outAt_last (G f : S1000000.Idx → BitVec 32) (i : S1000000.Idx) (_ : i ∈ tileSet (wid L)) :
    outAt (wid L) (k0_t1_loop L).trips G f i = G i := by
  have hi : (i 0).val < 1000000 := (i 0).isLt
  have := trips_reach L
  exact if_pos (by omega)

omit [FloatOps F] in
/-- Trip `t`'s block is among the tile's points. -/
theorem outBlk_sub (t : Fin (k0_t1_loop L).trips) : (outBlk L t).view.set ⊆ tileSet (wid L) := by
  intro i hi
  obtain ⟨j, -, rfl⟩ := Finset.mem_map.mp hi
  rw [emb_out]
  have hj : (j 0).val < 2000 := (j 0).isLt
  have ht := trip_lt L t
  have hw : wid L < 32 := by
    have h0 : (L 0).val < 2 := (L 0).isLt
    have h1 : (L 1).val < 16 := (L 1).isLt
    unfold wid; omega
  refine Finset.mem_filter.mpr ⟨Finset.mem_univ _, ?_⟩
  show (2000 * (wid L + 32 * t.val) + (j 0).val) % 1000000 / 2000 % 32 = wid L
  omega

omit [FloatOps F] in
/-- A point of trip `t`'s block, by its number. -/
theorem mem_outBlk (t : Fin (k0_t1_loop L).trips) (i : S1000000.Idx) :
    i ∈ (outBlk L t).view.set ↔ (i 0).val / 2000 = wid L + 32 * t.val := by
  have ht := trip_lt L t
  constructor
  · intro hi
    obtain ⟨j, -, rfl⟩ := Finset.mem_map.mp hi
    rw [emb_out]
    have hj : (j 0).val < 2000 := (j 0).isLt
    show (2000 * (wid L + 32 * t.val) + (j 0).val) % 1000000 / 2000 = wid L + 32 * t.val
    omega
  · intro hi
    have hi0 : (i 0).val < 1000000 := (i 0).isLt
    refine Finset.mem_map.mpr ⟨atRow (i 0).val, Finset.mem_univ _, ?_⟩
    refine (emb_out L t _).trans (funext fun a => ?_)
    match a with
    | 0 => exact Fin.ext (show (2000 * (wid L + 32 * t.val) + (i 0).val % 2000) % 1000000 = (i 0).val by omega)

/-- Before trip `t` of the outer loop. -/
def tileInv (O : CellTallies nD τ sig (HIx 1)) (W : Waits sig (HIx 1)) (q : PosShare TreeShare)
    (XS YS ZS BS : S1000000.Idx → BitVec 32) (T : S384.Idx → F .f32) (fo : S1000000.Idx → BitVec 32) (t : ℕ) (_ : PUnit.{1}) : sProp (MM F) :=
  iprop(Transfers.MayWaits (VT d L) (default : HIx 1) O
    ∗ (xsM.view.loc (VT d L) ↦{q} XS) ∗ (ysM.view.loc (VT d L) ↦{q} YS) ∗ (zsM.view.loc (VT d L) ↦{q} ZS) ∗ (bsM.view.loc (VT d L) ↦{q} BS)
    ∗ (∃ f, xbM.view.loc (VT d L) ↦{fullShare} f) ∗ (∃ f, ybM.view.loc (VT d L) ↦{fullShare} f)
    ∗ (∃ f, zbM.view.loc (VT d L) ↦{fullShare} f) ∗ (∃ f, bbM.view.loc (VT d L) ↦{fullShare} f)
    ∗ (∃ f, sbM.view.loc (VT d L) ↦{fullShare} f) ∗ (mbM.view.loc (VT d L) ↦{fullShare} T)
    ∗ (sgM.view.loc (VT d L) ↦[tileSet (wid L)]{fullShare} outAt (wid L) t (labelsAll XS YS ZS BS T) fo)
    ∗ cells0 d L
    ∗ ∃ W', ⌜∀ p ∈ W', p ∈ W ∨ p.2 = none⌝ ∗ owes (VT d L) O W')

omit [FloatOps F] in
/-- Trip `t`'s block taken at the labels and the rest as before are the array after the trip. -/
theorem outAt_step (t : Fin (k0_t1_loop L).trips) (G f : S1000000.Idx → BitVec 32) (i : S1000000.Idx) (hi : i ∈ tileSet (wid L)) :
    ((outBlk L t).view.set.piecewise G (outAt (wid L) t.val G f)) i = outAt (wid L) (t.val + 1) G f i := by
  have hm := (Finset.mem_filter.mp hi).2
  by_cases h : i ∈ (outBlk L t).view.set
  · rw [Finset.piecewise_eq_of_mem _ _ _ h]
    have := (mem_outBlk L t i).mp h
    exact (if_pos (by omega)).symm
  · rw [Finset.piecewise_eq_of_notMem _ _ _ h]
    have hne : (i 0).val / 2000 ≠ wid L + 32 * t.val := fun e => h ((mem_outBlk L t i).mpr e)
    unfold outAt
    by_cases h1 : (i 0).val / 2000 < wid L + 32 * t.val
    · rw [if_pos h1, if_pos (by omega)]
    · rw [if_neg h1, if_neg (by omega)]

/-- The invariant goes through a trip. -/
theorem trip_step (O : CellTallies nD τ sig (HIx 1)) (W : Waits sig (HIx 1)) (q : PosShare TreeShare)
    (XS YS ZS BS : S1000000.Idx → BitVec 32) (T : S384.Idx → F .f32) (hB : ∀ j, (BS j).toNat < 8) (fo : S1000000.Idx → BitVec 32)
    (t : Fin (k0_t1_loop L).trips) (u : PUnit) :
    tileInv d L O W q XS YS ZS BS T fo t.val u
      ⊢ wp frame (wpE (defs₀ (F := F)) 𝒱₀ (VT d L) none) Set.univ (tripBody L t u) fun u => tileInv d L O W q XS YS ZS BS T fo (t.val + 1) u := by
  unfold tileInv
  iintro ⟨#Hmw, HX, HY, HZ, HB, ⟨%fx, Hx⟩, ⟨%fy, Hy⟩, ⟨%fz, Hz⟩, ⟨%fb, Hb⟩, ⟨%fs, Hs⟩, HT, Ho, Hc, ⟨%W', %hW, HO⟩⟩
  ihave Ho := (pointsTo_split_subset (outBlk_sub L t)).1 $$ Ho
  icases Ho with ⟨Ho, Hr⟩
  iapply (wp_wand_r Idealize.ShloMosaic.frame (wpE (defs₀ (F := F)) 𝒱₀ (VT d L) none) Set.univ)
  isplitr [Hr]
  · iapply (trip_run d L O W' q XS YS ZS BS T hB t fx fy fz fb fs (outAt (wid L) t.val (labelsAll XS YS ZS BS T) fo))
    isplitr; · iexact Hmw
    isplitl [HX]; · iexact HX
    isplitl [HY]; · iexact HY
    isplitl [HZ]; · iexact HZ
    isplitl [HB]; · iexact HB
    isplitl [Hx]; · iexact Hx
    isplitl [Hy]; · iexact Hy
    isplitl [Hz]; · iexact Hz
    isplitl [Hb]; · iexact Hb
    isplitl [Hs]; · iexact Hs
    isplitl [HT]; · iexact HT
    isplitl [Ho]; · iexact Ho
    isplitl [Hc]; · iexact Hc
    iexact HO
  iintro %_ ⟨HX, HY, HZ, HB, Hx, Hy, Hz, Hb, Hs, HT, Ho, Hc, ⟨%W2, %hW2, HO⟩⟩
  isplitr; · iexact Hmw
  isplitl [HX]; · iexact HX
  isplitl [HY]; · iexact HY
  isplitl [HZ]; · iexact HZ
  isplitl [HB]; · iexact HB
  isplitl [Hx]; · iexact Hx
  isplitl [Hy]; · iexact Hy
  isplitl [Hz]; · iexact Hz
  isplitl [Hb]; · iexact Hb
  isplitl [Hs]; · iexact Hs
  isplitl [HT]; · iexact HT
  isplitl [Ho Hr]
  · iapply (Entails.of_eq (pointsTo_congr (outAt_step L t _ fo)))
    iapply (pointsTo_join_subset (outBlk_sub L t))
    isplitl [Ho]; · iexact Ho
    iexact Hr
  isplitl [Hc]; · iexact Hc
  iexists W2; isplitr
  · ipureintro
    intro p hp
    rcases hW2 p hp with h | h
    · exact hW p h
    · exact .inr h
  · iexact HO

/-- The tile's body: its points of the labels array get their labels. -/
theorem tile_run (O : CellTallies nD τ sig (HIx 1)) (W : Waits sig (HIx 1)) (q : PosShare TreeShare)
    (XS YS ZS BS : S1000000.Idx → BitVec 32) (T : S384.Idx → F .f32) (hB : ∀ j, (BS j).toNat < 8)
    (fx fy fz fb fs : S2000.Idx → BitVec 32) (ft : S384.Idx → F .f32) (fo : S1000000.Idx → BitVec 32) :
    (iprop(Transfers.MayWaits (VT d L) (default : HIx 1) O
        ∗ (xsM.view.loc (VT d L) ↦{q} XS) ∗ (ysM.view.loc (VT d L) ↦{q} YS) ∗ (zsM.view.loc (VT d L) ↦{q} ZS) ∗ (bsM.view.loc (VT d L) ↦{q} BS)
        ∗ (msM.view.loc (VT d L) ↦{q} T)
        ∗ (xbM.view.loc (VT d L) ↦{fullShare} fx) ∗ (ybM.view.loc (VT d L) ↦{fullShare} fy) ∗ (zbM.view.loc (VT d L) ↦{fullShare} fz)
        ∗ (bbM.view.loc (VT d L) ↦{fullShare} fb) ∗ (sbM.view.loc (VT d L) ↦{fullShare} fs) ∗ (mbM.view.loc (VT d L) ↦{fullShare} ft)
        ∗ (sgM.view.loc (VT d L) ↦[tileSet (wid L)]{fullShare} fo)
        ∗ cells0 d L
        ∗ owes (VT d L) O W) : sProp (MM F))
      ⊢ wp frame (wpE (defs₀ (F := F)) 𝒱₀ (VT d L) none) Set.univ
          (cc0__sc_binning L xsM (Memref.isWhole_whole _) ysM (Memref.isWhole_whole _) zsM (Memref.isWhole_whole _) bsM (Memref.isWhole_whole _)
            msM (Memref.isWhole_whole _) sgM (Memref.isWhole_whole _) xbM (Memref.isWhole_whole _) ybM (Memref.isWhole_whole _)
            zbM (Memref.isWhole_whole _) bbM (Memref.isWhole_whole _) sbM (Memref.isWhole_whole _) mbM (Memref.isWhole_whole _)
            cc0_scoped0 cc0_scoped1 cc0_scoped2 cc0_scoped3 cc0_scoped4 cc0_scoped5 cc0_scoped6 cc0_scoped7 cc0_scoped8 cc0_scoped9 cc0_scoped10)
          fun _ => iprop((xsM.view.loc (VT d L) ↦{q} XS) ∗ (ysM.view.loc (VT d L) ↦{q} YS) ∗ (zsM.view.loc (VT d L) ↦{q} ZS)
            ∗ (bsM.view.loc (VT d L) ↦{q} BS) ∗ (msM.view.loc (VT d L) ↦{q} T)
            ∗ (∃ f, xbM.view.loc (VT d L) ↦{fullShare} f) ∗ (∃ f, ybM.view.loc (VT d L) ↦{fullShare} f)
            ∗ (∃ f, zbM.view.loc (VT d L) ↦{fullShare} f) ∗ (∃ f, bbM.view.loc (VT d L) ↦{fullShare} f)
            ∗ (∃ f, sbM.view.loc (VT d L) ↦{fullShare} f) ∗ (∃ f, mbM.view.loc (VT d L) ↦{fullShare} f)
            ∗ (sgM.view.loc (VT d L) ↦[tileSet (wid L)]{fullShare} labelsAll XS YS ZS BS T)
            ∗ cells0 d L
            ∗ ∃ W', ⌜∀ p ∈ W', p ∈ W ∨ p.2 = none⌝ ∗ owes (VT d L) O W') := by
  iintro ⟨#Hmw, HX, HY, HZ, HB, HM, Hx, Hy, Hz, Hb, Hs, HT, Ho, ⟨Hc0, Hc1, Hc2, Hc3, Hc4, Hc5⟩, HO⟩
  sl_unfold [cc0__sc_binning]
  sl_exec (disch := exact View.amount_pos _ _ (show 0 < S384.numel by decide))
  have eT : View.write (Elt F) mbM.view ft (tile_run.sl.dma0 T) Finset.univ = T := by
    rw [View.write_whole_univ]
    rfl
  ihave HT := (Entails.of_eq (congrArg (fun g => (mbM.view.loc (VT d L) ↦{fullShare} g : sProp (MM F))) eT)) $$ HT
  sl_for (tileInv d L O W q XS YS ZS BS T fo) $$ [HX HY HZ HB Hx Hy Hz Hb Hs HT Ho Hc0 Hc1 Hc2 Hc3 Hc4 Hc5 HO]
  case region =>
    intro t u
    exact trip_step d L O W q XS YS ZS BS T hB fo t u
  · unfold tileInv
    isplitr; · iexact Hmw
    isplitl [HX]; · iexact HX
    isplitl [HY]; · iexact HY
    isplitl [HZ]; · iexact HZ
    isplitl [HB]; · iexact HB
    isplitl [Hx]; · iexists _; iexact Hx
    isplitl [Hy]; · iexists _; iexact Hy
    isplitl [Hz]; · iexists _; iexact Hz
    isplitl [Hb]; · iexists _; iexact Hb
    isplitl [Hs]; · iexists _; iexact Hs
    isplitl [HT]; · iexact HT
    isplitl [Ho]; · iapply (Entails.of_eq (pointsTo_congr (outAt_init L _ fo))) $$ Ho
    isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    iexists _; isplitr
    swap; · iexact HO
    ipureintro
    intro p hp
    rcases Finset.mem_insert.mp hp with rfl | hp
    · exact .inr rfl
    · exact .inl hp
  iintro %_ HI
  sl_for (fun _ _ => (iprop(True) : sProp (MM F))) $$ []
  case region =>
    intro t _
    exact absurd t.isLt (Nat.not_lt.mpr (le_trans (k0_t4_abs L).2.1 (Nat.zero_le _)))
  · itrivial
  iintro %_ -
  unfold tileInv
  icases HI with ⟨-, HX, HY, HZ, HB, Hx, Hy, Hz, Hb, Hs, HT, Ho, Hc, HO⟩
  sl_exec
  sl_step
  isplitl [HX]; · iexact HX
  isplitl [HY]; · iexact HY
  isplitl [HZ]; · iexact HZ
  isplitl [HB]; · iexact HB
  isplitl [HM]; · iexact HM
  isplitl [Hx]; · iexact Hx
  isplitl [Hy]; · iexact Hy
  isplitl [Hz]; · iexact Hz
  isplitl [Hb]; · iexact Hb
  isplitl [Hs]; · iexact Hs
  isplitl [HT]; · iexists _; iexact HT
  isplitl [Ho]; · iapply (Entails.of_eq (pointsTo_congr (outAt_last L _ fo))) $$ Ho
  isplitl [Hc]; · iexact Hc
  iexact HO

end Run

end Cert.Proof.Bin

end
-- ==== Proof.Deal.lean ====
/-
  How the launch deals the labels array and the kernel's inputs to the thirty-two tiles and takes them back, and each
  tile's task from what it is dealt.
-/
module

public import proofs.«01_k».proof.Proof.Tile

@[expose] public section

noncomputable section

namespace Cert.Proof.Bin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.ShareLeaves (leaf pointsTo_leaves)

variable {F : FTy → Type}

/-- What the binning call is handed: the three coordinate arrays, the batch numbers, the table of means, and what
    the labels array held before. -/
structure Given (F : FTy → Type) where
  xs : S1000000.Idx → BitVec 32
  ys : S1000000.Idx → BitVec 32
  zs : S1000000.Idx → BitVec 32
  bs : S1000000.Idx → BitVec 32
  ms : S384.Idx → F .f32
  old : S1000000.Idx → BitVec 32

variable (A : Dev nD → Given F)

/-- The five inputs at share `q`. -/
abbrev reads (d : Dev nD) (q : PosShare TreeShare) : sProp (MM F) :=
  iprop(((T d : Thread nD τ).loc main_v1 ↦{q} (A d).xs) ∗ ((T d : Thread nD τ).loc main_v3 ↦{q} (A d).ys)
    ∗ ((T d : Thread nD τ).loc main_v5 ↦{q} (A d).zs) ∗ ((T d : Thread nD τ).loc main_arg2 ↦{q} (A d).bs)
    ∗ ((T d : Thread nD τ).loc main_v31 ↦{q} (A d).ms))

/-- The labels array on the points `I`. -/
abbrev seg (d : Dev nD) (I : Finset S1000000.Idx) (f : S1000000.Idx → BitVec 32) : sProp (MM F) :=
  (T d : Thread nD τ).loc main_v32 ↦[I]{fullShare} f

theorem reads_leaves (d : Dev nD) (n : ℕ) (q : PosShare TreeShare) :
    reads A d q = bigSep Finset.univ fun i : Fin (2 ^ n) => reads A d (leaf n q i) := by
  unfold reads
  rw [bigSep_sep', bigSep_sep', bigSep_sep', bigSep_sep',
    ← pointsTo_leaves, ← pointsTo_leaves, ← pointsTo_leaves, ← pointsTo_leaves, ← pointsTo_leaves]

/-- The points of SparseCore `c`: the blocks of its parity. -/
def coreSet (c : ℕ) : Finset S1000000.Idx := Finset.univ.filter fun j => (j 0).val / 2000 % 2 = c

theorem seg_cores (d : Dev nD) (f : S1000000.Idx → BitVec 32) :
    (seg d Finset.univ f : sProp (MM F)) = bigSep Finset.univ fun c : Fin 2 => seg d (coreSet c.val) f := by
  rw [← pointsTo_biUnion Finset.univ (ℓ := (T d : Thread nD τ).loc main_v32) (fun c : Fin 2 => coreSet c.val) (fun a _ b _ h => ?_)]
  · refine congrArg (fun I => (seg d I f : sProp (MM F))) (Finset.eq_univ_of_forall fun j => Finset.mem_biUnion.mpr
      ⟨⟨(j 0).val / 2000 % 2, Nat.mod_lt _ (by decide)⟩, Finset.mem_univ _, ?_⟩).symm
    exact Finset.mem_filter.mpr ⟨Finset.mem_univ _, rfl⟩
  · refine Finset.disjoint_left.mpr fun j hj hj' => h (Fin.ext ?_)
    exact (Finset.mem_filter.mp hj).2.symm.trans (Finset.mem_filter.mp hj').2

theorem seg_tiles (d : Dev nD) (c : Fin 2) (f : S1000000.Idx → BitVec 32) :
    (seg d (coreSet c.val) f : sProp (MM F)) = bigSep Finset.univ fun i : Fin 16 => seg d (tileSet (2 * i.val + c.val)) f := by
  have hc := c.isLt
  rw [← pointsTo_biUnion Finset.univ (ℓ := (T d : Thread nD τ).loc main_v32) (fun i : Fin 16 => tileSet (2 * i.val + c.val)) (fun a _ b _ h => ?_)]
  · refine congrArg (fun I => (seg d I f : sProp (MM F))) (Finset.ext fun j => ?_)
    rw [Finset.mem_biUnion]
    refine ⟨fun hj => ?_, fun ⟨i, _, hj⟩ => ?_⟩
    · have h := (Finset.mem_filter.mp hj).2
      refine ⟨⟨(j 0).val / 2000 % 32 / 2, by omega⟩, Finset.mem_univ _, Finset.mem_filter.mpr ⟨Finset.mem_univ _, ?_⟩⟩
      show (j 0).val / 2000 % 32 = 2 * ((j 0).val / 2000 % 32 / 2) + c.val
      omega
    · have h := (Finset.mem_filter.mp hj).2
      refine Finset.mem_filter.mpr ⟨Finset.mem_univ _, ?_⟩
      omega
  · refine Finset.disjoint_left.mpr fun j hj hj' => h (Fin.ext ?_)
    have := (Finset.mem_filter.mp hj).2
    have := (Finset.mem_filter.mp hj').2
    omega

theorem nCore_zero : (K (F := F)).nCore 0 = 2 := rfl
theorem nSub_zero : (K (F := F)).nSub 0 = 16 := rfl

/-- SparseCore `c`'s share of the inputs, tile `i`'s share of it. -/
abbrev qc (c : Fin 2) : PosShare TreeShare := leaf 1 fullShare c
abbrev qt (c : Fin 2) (i : Fin 16) : PosShare TreeShare := leaf 4 (qc c) i

variable [FloatOps F]

/-- The labels the call leaves. -/
abbrev labelled (d : Dev nD) : S1000000.Idx → BitVec 32 := labelsAll (A d).xs (A d).ys (A d).zs (A d).bs (A d).ms

/-- What a SparseCore takes and brings back, and what a tile does. -/
abbrev stOf (d : Dev nD) (c : Fin 2) : sProp (MM F) := iprop(reads A d (qc c) ∗ seg d (coreSet c.val) (A d).old)
abbrev dnOf (d : Dev nD) (c : Fin 2) : sProp (MM F) := iprop(reads A d (qc c) ∗ seg d (coreSet c.val) (labelled A d))
abbrev goOf (d : Dev nD) (c : Fin 2) (i : Fin 16) : sProp (MM F) :=
  iprop(reads A d (qt c i) ∗ seg d (tileSet (2 * i.val + c.val)) (A d).old)
abbrev tdOf (d : Dev nD) (c : Fin 2) (i : Fin 16) : sProp (MM F) :=
  iprop(reads A d (qt c i) ∗ seg d (tileSet (2 * i.val + c.val)) (labelled A d))

/-- What the handshakes carry. -/
def P : (K (F := F)).Pay (nD := nD) (Val := Elt F) (Name := ℕ) (U := UU) where
  st := fun q d c => match q with | 0 => stOf A d (Fin.cast nCore_zero c)
  dn := fun q d c => match q with | 0 => dnOf A d (Fin.cast nCore_zero c)
  go := fun q d c i => match q with | 0 => goOf A d (Fin.cast nCore_zero c) (Fin.cast nSub_zero i)
  td := fun q d c i => match q with | 0 => tdOf A d (Fin.cast nCore_zero c) (Fin.cast nSub_zero i)
  x := fun _ _ => iprop(emp)

instance P_storable : (P A).IsStorable where
  st q d c := match q with | 0 => (inferInstance : BI.Storable (upEmb : UEmb _ (MM F)) (stOf A d (Fin.cast nCore_zero c)))
  dn q d c := match q with | 0 => (inferInstance : BI.Storable (upEmb : UEmb _ (MM F)) (dnOf A d (Fin.cast nCore_zero c)))
  go q d c i := match q with | 0 => (inferInstance : BI.Storable (upEmb : UEmb _ (MM F)) (goOf A d (Fin.cast nCore_zero c) (Fin.cast nSub_zero i)))
  td q d c i := match q with | 0 => (inferInstance : BI.Storable (upEmb : UEmb _ (MM F)) (tdOf A d (Fin.cast nCore_zero c) (Fin.cast nSub_zero i)))

omit [FloatOps F] in
theorem bigSep_cast16 (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cast2 (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's holdings are its tiles' holdings. -/
theorem tiles_eq (d : Dev nD) (c : Fin 2) (f : S1000000.Idx → BitVec 32) :
    (bigSep Finset.univ fun i : Fin 16 => iprop(reads A d (qt c i) ∗ seg d (tileSet (2 * i.val + c.val)) f))
      = iprop(reads A d (qc c) ∗ seg d (coreSet c.val) f) := by
  rw [bigSep_sep', seg_tiles]
  exact congrArg (fun X => iprop(X ∗ _)) (reads_leaves A d 4 (qc c)).symm

omit [FloatOps F] in
/-- The arrays whole are the SparseCores' holdings. -/
theorem cores_eq (d : Dev nD) (f : S1000000.Idx → BitVec 32) :
    (bigSep Finset.univ fun c : Fin 2 => iprop(reads A d (qc c) ∗ seg d (coreSet c.val) f))
      = iprop(reads A d fullShare ∗ seg d Finset.univ f) := by
  rw [bigSep_sep', seg_cores]
  exact congrArg (fun X => iprop(X ∗ _)) (reads_leaves A d 1 fullShare).symm

theorem st_eq (d : Dev nD) : (bigSep Finset.univ fun c : Fin ((K (F := F)).nCore 0) => (P A).st 0 d c)
    = iprop(reads A d fullShare ∗ seg d Finset.univ (A d).old) :=
  (bigSep_cast2 (stOf A d)).trans (cores_eq A d (A d).old)
theorem dn_eq (d : Dev nD) : (bigSep Finset.univ fun c : Fin ((K (F := F)).nCore 0) => (P A).dn 0 d c)
    = iprop(reads A d fullShare ∗ seg d Finset.univ (labelled A d)) :=
  (bigSep_cast2 (dnOf A d)).trans (cores_eq A d (labelled A d))

theorem vecSplit : (K (F := F)).VecSplit' (P A) 0 := by
  intro d c
  show stOf A d (Fin.cast nCore_zero c) ⊢ |={Set.univ}=> iprop(
      (bigSep Finset.univ fun i : Fin ((K (F := F)).nSub 0) => goOf A d (Fin.cast nCore_zero c) (Fin.cast nSub_zero i))
      ∗ ((bigSep Finset.univ fun i : Fin ((K (F := F)).nSub 0) => tdOf A d (Fin.cast nCore_zero c) (Fin.cast nSub_zero i))
          -∗ dnOf A d (Fin.cast nCore_zero c)))
  rw [bigSep_cast16 (goOf A d (Fin.cast nCore_zero c)), bigSep_cast16 (tdOf A d (Fin.cast nCore_zero c)), tiles_eq, tiles_eq]
  iintro H; imodintro
  isplitl [H]; · iexact H
  iintro H; iexact H

/-! ## The task -/

section Task

variable (d : Dev nD) (L : grid0.Coords)

/-- The six cells of the copies as a family. -/
def copyCell (k : Fin 6) : DmaSem sig := match k with
  | 0 => cc0_scoped0.sem | 1 => cc0_scoped1.sem | 2 => cc0_scoped2.sem | 3 => cc0_scoped3.sem | 4 => cc0_scoped4.sem | 5 => cc0_scoped5.sem

theorem copyCell_inj : Function.Injective copyCell := by decide

abbrev cellAt (k : Fin 6) : GSem nD τ sig := (VT d L, .dma (copyCell k))

theorem cellAt_mem (k : Fin 6) : cellAt d L k ∈ ownCells (VT d L) :=
  mem_ownCells.mpr ⟨rfl, (show ∀ s : DmaSem sig, (SemLoc.dma s : SemLoc sig).isScoped .scVector = true by decide) _⟩

omit [FloatOps F] in
/-- The tile's cells at zero: the six of the copies and the rest. -/
theorem ownSems0_tile :
    (ownSems0 (VT d L) : sProp (MM F))
      = iprop(cells0 d L ∗ bigSep ((ownCells (VT d L)) \ Finset.univ.image (cellAt d L)) fun g => semVal g 0) := by
  unfold SparseCore.Cfg.ownSems0
  rw [SparseCore.bigSep_sdiff_split' (t := Finset.univ.image (cellAt d L)) (Finset.image_subset_iff.mpr fun k _ => cellAt_mem d L k),
    SparseCore.bigSep_image_of_injOn (fun a _ b _ h => by
      have h2 := congrArg (fun g : GSem nD τ sig => g.2) h
      simp only [SemLoc.dma.injEq] at h2
      exact copyCell_inj h2)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- The tile's scratch buffer `k` among the device's buffers. -/
abbrev bufAt (b : Ref sig .scVector) : DevRef τ sig := (Proc.scVector (cV L) (jV L)).devRef b

theorem bufAt_mem (b : Ref sig .scVector) (h : ((Proc.scVector (cV L) (jV L)).devRef b).owner = .proc (.scVector (cV L) (jV L))) :
    bufAt L b ∈ ownRefs (τ := τ) (.scVector (cV L) (jV L)) := SparseCore.Cfg.mem_ownRefs_of_owner h

theorem bufAt_ne {a b : Ref sig .scVector} (h : a ≠ b) : bufAt L a ≠ bufAt L b := fun e => h (Proc.devRef_injective _ e)

omit [FloatOps F] in
/-- The tile's buffers: its six scratch buffers and the rest. -/
theorem ownBufs_tile : ∃ R : sProp (MM F),
    (ownBufs (VT d L) : sProp (MM F))
      = iprop((∃ f, xbM.view.loc (VT d L) ↦{fullShare} f) ∗ (∃ f, ybM.view.loc (VT d L) ↦{fullShare} f)
          ∗ (∃ f, zbM.view.loc (VT d L) ↦{fullShare} f) ∗ (∃ f, bbM.view.loc (VT d L) ↦{fullShare} f)
          ∗ (∃ f, sbM.view.loc (VT d L) ↦{fullShare} f) ∗ (∃ f, mbM.view.loc (VT d L) ↦{fullShare} f) ∗ R) := by
  have h := SparseCore.bigSep_erase' (Φ := fun b => (iprop(∃ f, ((d, b) : Loc nD τ sig) ↦{fullShare} f) : sProp (MM F))) (bufAt_mem L cc0_scratch0 rfl)
  rw [SparseCore.bigSep_erase' (Finset.mem_erase.mpr ⟨bufAt_ne L (a := cc0_scratch1) (b := cc0_scratch0) (by decide), bufAt_mem L cc0_scratch1 rfl⟩),
    SparseCore.bigSep_erase' (Finset.mem_erase.mpr ⟨bufAt_ne L (a := cc0_scratch2) (b := cc0_scratch1) (by decide),
      Finset.mem_erase.mpr ⟨bufAt_ne L (a := cc0_scratch2) (b := cc0_scratch0) (by decide), bufAt_mem L cc0_scratch2 rfl⟩⟩),
    SparseCore.bigSep_erase' (Finset.mem_erase.mpr ⟨bufAt_ne L (a := cc0_scratch3) (b := cc0_scratch2) (by decide),
      Finset.mem_erase.mpr ⟨bufAt_ne L (a := cc0_scratch3) (b := cc0_scratch1) (by decide),
      Finset.mem_erase.mpr ⟨bufAt_ne L (a := cc0_scratch3) (b := cc0_scratch0) (by decide), bufAt_mem L cc0_scratch3 rfl⟩⟩⟩),
    SparseCore.bigSep_erase' (Finset.mem_erase.mpr ⟨bufAt_ne L (a := cc0_scratch4) (b := cc0_scratch3) (by decide),
      Finset.mem_erase.mpr ⟨bufAt_ne L (a := cc0_scratch4) (b := cc0_scratch2) (by decide),
      Finset.mem_erase.mpr ⟨bufAt_ne L (a := cc0_scratch4) (b := cc0_scratch1) (by decide),
      Finset.mem_erase.mpr ⟨bufAt_ne L (a := cc0_scratch4) (b := cc0_scratch0) (by decide), bufAt_mem L cc0_scratch4 rfl⟩⟩⟩⟩),
    SparseCore.bigSep_erase' (Finset.mem_erase.mpr ⟨bufAt_ne L (a := cc0_scratch5) (b := cc0_scratch4) (by decide),
      Finset.mem_erase.mpr ⟨bufAt_ne L (a := cc0_scratch5) (b := cc0_scratch3) (by decide),
      Finset.mem_erase.mpr ⟨bufAt_ne L (a := cc0_scratch5) (b := cc0_scratch2) (by decide),
      Finset.mem_erase.mpr ⟨bufAt_ne L (a := cc0_scratch5) (b := cc0_scratch1) (by decide),
      Finset.mem_erase.mpr ⟨bufAt_ne L (a := cc0_scratch5) (b := cc0_scratch0) (by decide), bufAt_mem L cc0_scratch5 rfl⟩⟩⟩⟩⟩)] at h
  exact ⟨_, h⟩

/-- The task of tile `L` from what the launch deals it to what it hands back. -/
theorem tile_body (hF : (K (F := F)).Facts) (hB : ∀ d j, ((A d).bs j).toNat < 8) (O : CellTallies nD τ sig (HIx 1)) (W : Waits sig (HIx 1))
    (hO : ∀ g, O g none = 0) (q : PosShare TreeShare) :
    iprop(levAts (K (F := F)).L (K (F := F)).lev ∗ emp
        ∗ (reads A d q ∗ seg d (tileSet (wid L)) (A d).old)
        ∗ scopedBufs (VT d L) ∗ scopedSems0 (VT d L) ∗ owes (VT d L) O W)
      ⊢ wp frame (wpE (defs₀ (F := F)) 𝒱₀ (VT d L) none) Set.univ
          (cc0__sc_binning L xsM (Memref.isWhole_whole _) ysM (Memref.isWhole_whole _) zsM (Memref.isWhole_whole _) bsM (Memref.isWhole_whole _)
            msM (Memref.isWhole_whole _) sgM (Memref.isWhole_whole _) xbM (Memref.isWhole_whole _) ybM (Memref.isWhole_whole _)
            zbM (Memref.isWhole_whole _) bbM (Memref.isWhole_whole _) sbM (Memref.isWhole_whole _) mbM (Memref.isWhole_whole _)
            cc0_scoped0 cc0_scoped1 cc0_scoped2 cc0_scoped3 cc0_scoped4 cc0_scoped5 cc0_scoped6 cc0_scoped7 cc0_scoped8 cc0_scoped9 cc0_scoped10)
          fun _ => iprop((reads A d q ∗ seg d (tileSet (wid L)) (labelled A d))
            ∗ scopedBufs (VT d L) ∗ scopedSems0 (VT d L)
            ∗ ∃ W', ⌜∀ p ∈ W', p ∈ W ∨ p.2 = none ∨ p.2 = some (0 : Fin 1)⌝ ∗ owes (VT d L) O W') := by
  obtain ⟨R, hR⟩ := ownBufs_tile (F := F) d L
  rw [(K (F := F)).scopedBufs_V hF d (cV L) (jV L), SparseCore.Cfg.scopedSems0_V (Val := Elt F) d (cV L) (jV L), ownSems0_tile, hR]
  iintro ⟨#Hlv, -, ⟨⟨HX, HY, HZ, HB, HM⟩, Ho⟩, ⟨⟨%fx, Hx⟩, ⟨%fy, Hy⟩, ⟨%fz, Hz⟩, ⟨%fb, Hb⟩, ⟨%fs, Hs⟩, ⟨%ft, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [HX HY HZ HB HM Hx Hy Hz Hb Hs HT Ho HC HO]
  · iapply (tile_run d L O W q (A d).xs (A d).ys (A d).zs (A d).bs (A d).ms (hB d) fx fy fz fb fs ft (A d).old)
    isplitr; · iexact Hmw
    isplitl [HX]; · iexact HX
    isplitl [HY]; · iexact HY
    isplitl [HZ]; · iexact HZ
    isplitl [HB]; · iexact HB
    isplitl [HM]; · iexact HM
    isplitl [Hx]; · iexact Hx
    isplitl [Hy]; · iexact Hy
    isplitl [Hz]; · iexact Hz
    isplitl [Hb]; · iexact Hb
    isplitl [Hs]; · iexact Hs
    isplitl [HT]; · iexact HT
    isplitl [Ho]; · iexact Ho
    isplitl [HC]; · iexact HC
    iexact HO
  iintro %_ ⟨HX, HY, HZ, HB, HM, Hx, Hy, Hz, Hb, Hs, HT, Ho, HC, ⟨%W', %hW, HO⟩⟩
  isplitl [HX HY HZ HB HM Ho]
  · isplitr [Ho]
    · isplitl [HX]; · iexact HX
      isplitl [HY]; · iexact HY
      isplitl [HZ]; · iexact HZ
      isplitl [HB]; · iexact HB
      iexact HM
    · iexact Ho
  isplitl [Hx Hy Hz Hb Hs HT Hbufs]
  · isplitl [Hx]; · iexact Hx
    isplitl [Hy]; · iexact Hy
    isplitl [Hz]; · iexact Hz
    isplitl [Hb]; · iexact Hb
    isplitl [Hs]; · iexact Hs
    isplitl [HT]; · iexact HT
    iexact Hbufs
  isplitl [HC Hsems]
  · isplitl [HC]; · iexact HC
    iexact Hsems
  iexists W'; isplitr
  · ipureintro
    intro p hp
    exact (hW p hp).imp_right .inl
  · iexact HO

end Task

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_binning (coordsV c s)
          xsM (Memref.isWhole_whole _) ysM (Memref.isWhole_whole _) zsM (Memref.isWhole_whole _) bsM (Memref.isWhole_whole _)
          msM (Memref.isWhole_whole _) sgM (Memref.isWhole_whole _) xbM (Memref.isWhole_whole _) ybM (Memref.isWhole_whole _)
          zbM (Memref.isWhole_whole _) bbM (Memref.isWhole_whole _) sbM (Memref.isWhole_whole _) mbM (Memref.isWhole_whole _)
          cc0_scoped0 cc0_scoped1 cc0_scoped2 cc0_scoped3 cc0_scoped4 cc0_scoped5 cc0_scoped6 cc0_scoped7 cc0_scoped8 cc0_scoped9 cc0_scoped10)
          ⟨⟩ c s := rfl

/-- Every tile's task meets its obligation. -/
theorem tileObl (hF : (K (F := F)).Facts) (hB : ∀ d j, ((A d).bs j).toNat < 8) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) hF hB O W hO (qt (Fin.cast nCore_zero c) (Fin.cast nSub_zero i))

end Cert.Proof.Bin

end
-- ==== Proof.Region.lean ====
/-
  The pooling kernel on the TensorCore: one grid point of its body, and the region of fifty points over the held
  arrays.
-/
module

public import proofs.«01_k».proof.Proof.Setup
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.Value
public import Idealize.ShloMosaic.Lib.VecWindow
public import Idealize.ShloMosaic.Lib.Tactic

@[expose] public section

noncomputable section

namespace Cert.Proof.Bin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

open Idealize.ShloMosaic.TcCoe
open Idealize.ShloMosaic.Pipeline (Dat)

variable {F : FTy → Type} [FloatOps F]

/-! ## The body at one point -/

/-- The condition under which the body clears its two accumulators: the first point. -/
abbrev isFirst (i : grid1.Coords) : BitVec 1 :=
  Scalar.cmpi .ne (Scalar.extui (Scalar.cmpi .eq (BitVec.ofNat 32 (i 0).val) 0#32) : BitVec 32) 0#32

/-- The accumulators' buffers. -/
abbrev accM : Memref sig .tc .vmem S128x64 .f32 := Memref.whole cc1_scratch0
abbrev cntM : Memref sig .tc .vmem S128x8 .f32 := Memref.whole cc1_scratch1

/-- The first column of the counts. -/
def column (n : S128x8.Idx → F .f32) : S128x1.Idx → F .f32 :=
  fun x => n ((Rect.unit (s := S128x8) ![0, 0] S128x1.size inb_S128x8_S128x1_0_0).idx x)

/-- What one point makes of the sums and of the counts. -/
def stepSum (i : grid1.Coords) (s : S1x1x20000.Idx → BitVec 32) (x : S20000x64.Idx → F .f32) (a : S128x64.Idx → F .f32) : S128x64.Idx → F .f32 :=
  k1_pay4 s x (if isFirst i = 1#1 then k1_pay1 else a)
def stepCnt (i : grid1.Coords) (s : S1x1x20000.Idx → BitVec 32) (n : S128x8.Idx → F .f32) : S128x8.Idx → F .f32 :=
  k1_pay5 s (if isFirst i = 1#1 then k1_pay2 else n)

/-- A store through a whole accumulator leaves the payload; -/
theorem acc_stored (a w : S128x64.Idx → F .f32) (L : List (View.Piece (Elt F) S128x64 .f32)) :
    accM.view.writes (Elt F) a (⟨Rect.unit (s := S128x64) ![0, 0] S128x64.size inb_S128x64_S128x64_0_0, w⟩ :: L) = w :=
  (View.read_whole cc1_scratch0 _).symm.trans (View.read_writes_full accM.view a inb_S128x64_S128x64_0_0 w L)
theorem cnt_stored (n w : S128x8.Idx → F .f32) (L : List (View.Piece (Elt F) S128x8 .f32)) :
    cntM.view.writes (Elt F) n (⟨Rect.unit (s := S128x8) ![0, 0] S128x8.size inb_S128x8_S128x8_0_0, w⟩ :: L) = w :=
  (View.read_whole cc1_scratch1 _).symm.trans (View.read_writes_full cntM.view n inb_S128x8_S128x8_0_0 w L)
/-- a load of its first column after such a store reads the payload's. -/
theorem cnt_column [∀ e, Nonempty (Elt F e)] (w : S128x8.Idx → F .f32) (L : List (View.Piece (Elt F) S128x8 .f32)) :
    cntM.view.readCov (⟨Rect.unit (s := S128x8) ![0, 0] S128x8.size inb_S128x8_S128x8_0_0, w⟩ :: L)
      (Rect.unit (s := S128x8) ![0, 0] S128x1.size inb_S128x8_S128x1_0_0).toLoadRect = column w :=
  funext fun x => congrFun (show cntM.view.read (Elt F) (cntM.view.writes (Elt F) cntM.view.junk
      (⟨Rect.unit (s := S128x8) ![0, 0] S128x8.size inb_S128x8_S128x8_0_0, w⟩ :: L)) = w from
    View.read_writes_full cntM.view cntM.view.junk inb_S128x8_S128x8_0_0 w L) ((Rect.unit (s := S128x8) ![0, 0] S128x1.size inb_S128x8_S128x1_0_0).idx x)

/-- The result's buffer after the point that stores it, and untouched after any other. -/
theorem last_stored {i : grid1.Coords} (M3 : Memref sig .tc .vmem S128x64 .f32) (f3 : M3.view.ty.Contents (Elt F))
    (v29 k : S128x1.Idx → F .f32) (v32 s : S128x64.Idx → F .f32) (h29 : v29 = k) (h32 : v32 = s) :
    M3.view.read (Elt F) (if _hc : k1_cond2 i = 1#1
        then M3.view.writes (Elt F) f3 [⟨Rect.unit (s := S128x64) ![0, 0] S128x64.size inb_S128x64_S128x64_0_0, k1_pay6 v29 v32⟩] else f3)
      = if k1_cond2 i = 1#1 then k1_pay6 k s else M3.view.read (Elt F) f3 := by
  subst h29 h32
  split
  · exact View.read_writes_full M3.view f3 _ _ _
  · rfl

/-- The body's run at one point. -/
theorem point_run (c : Dev nD) (i : grid1.Coords)
    (M1 : Memref sig .tc .vmem S1x1x20000 .i32) (h1 : M1.IsWhole) (M2 : Memref sig .tc .vmem S20000x64 .f32) (h2 : M2.IsWhole)
    (M3 : Memref sig .tc .vmem S128x64 .f32) (h3 : M3.IsWhole)
    (f1 : Buf (Elt F) (M1.view.loc (c : Thread nD τ))) (f2 : Buf (Elt F) (M2.view.loc (c : Thread nD τ))) (f3 : Buf (Elt F) (M3.view.loc (c : Thread nD τ)))
    (a : S128x64.Idx → F .f32) (n : S128x8.Idx → F .f32) :
    (iprop((M1.view.loc (c : Thread nD τ) ↦{fullShare} f1) ∗ (M2.view.loc (c : Thread nD τ) ↦{fullShare} f2)
        ∗ (M3.view.loc (c : Thread nD τ) ↦{fullShare} f3)
        ∗ (accM.view.loc (c : Thread nD τ) ↦{fullShare} a) ∗ (cntM.view.loc (c : Thread nD τ) ↦{fullShare} n)) : sProp (MM F))
      ⊢ wp frame (wpE (defs₀ (F := F)) 𝒱₀ (c : Thread nD τ) none) Set.univ
          (cc1__feat_kernel i M1 h1 M2 h2 M3 h3 accM (Memref.isWhole_whole _) cntM (Memref.isWhole_whole _))
          fun _ => iprop((M1.view.loc (c : Thread nD τ) ↦{fullShare} f1) ∗ (M2.view.loc (c : Thread nD τ) ↦{fullShare} f2)
            ∗ (∃ g3, ⌜M3.view.read (Elt F) g3 = if k1_cond2 i = 1#1
                then k1_pay6 (column (stepCnt i (M1.view.read (Elt F) f1) n)) (stepSum i (M1.view.read (Elt F) f1) (M2.view.read (Elt F) f2) a)
                else M3.view.read (Elt F) f3⌝ ∗ (M3.view.loc (c : Thread nD τ) ↦{fullShare} g3))
            ∗ (accM.view.loc (c : Thread nD τ) ↦{fullShare} stepSum i (M1.view.read (Elt F) f1) (M2.view.read (Elt F) f2) a)
            ∗ (cntM.view.loc (c : Thread nD τ) ↦{fullShare} stepCnt i (M1.view.read (Elt F) f1) n)) := by
  iintro ⟨H1, H2, H3, HA, HN⟩
  sl_unfold [cc1__feat_kernel]
  rcases Classical.em (isFirst i = 1#1) with hc | hc
  · sl_exec (disch := first | sl_exact hc)
    have eS : k1_pay4 (M1.view.readAt (Elt F) (Rect.unit (s := S1x1x20000) ![0, 0, 0] S1x1x20000.size inb_S1x1x20000_S1x1x20000_0_0_0).toLoadRect f1)
        (M2.view.readAt (Elt F) (Rect.unit (s := S20000x64) ![0, 0] S20000x64.size inb_S20000x64_S20000x64_0_0).toLoadRect f2)
        (accM.view.readCov (point_run.sl.HA_1 (F := F)) (Rect.unit (s := S128x64) ![0, 0] S128x64.size inb_S128x64_S128x64_0_0).toLoadRect)
        = stepSum i (M1.view.read (Elt F) f1) (M2.view.read (Elt F) f2) a := by
      unfold stepSum point_run.sl.HA_1
      rw [if_pos hc, View.readAt_full, View.readAt_full, View.readCov_full]
    have eC : k1_pay5 (M1.view.readAt (Elt F) (Rect.unit (s := S1x1x20000) ![0, 0, 0] S1x1x20000.size inb_S1x1x20000_S1x1x20000_0_0_0).toLoadRect f1)
        (cntM.view.readCov (point_run.sl.HN_1 (F := F)) (Rect.unit (s := S128x8) ![0, 0] S128x8.size inb_S128x8_S128x8_0_0).toLoadRect)
        = stepCnt i (M1.view.read (Elt F) f1) n := by
      unfold stepCnt point_run.sl.HN_1
      rw [if_pos hc, View.readAt_full, View.readCov_full]
    have eA : accM.view.writes (Elt F) a (point_run.sl.HA_2 c M1 M2 f1 f2) = stepSum i (M1.view.read (Elt F) f1) (M2.view.read (Elt F) f2) a := by
      rw [← eS]; exact acc_stored a _ _
    have eN : cntM.view.writes (Elt F) n (point_run.sl.HN_2 c M1 f1) = stepCnt i (M1.view.read (Elt F) f1) n := by
      rw [← eC]; exact cnt_stored n _ _
    have e29 : point_run.sl.v29 c M1 f1 = column (stepCnt i (M1.view.read (Elt F) f1) n) := by
      rw [← eC]; exact cnt_column _ _
    have e32 : point_run.sl.v32 c M1 M2 f1 f2 = stepSum i (M1.view.read (Elt F) f1) (M2.view.read (Elt F) f2) a := by
      rw [← eS]; exact View.readCov_full accM.view _ _ _ _
    ihave HA := (Entails.of_eq (congrArg (fun g => (accM.view.loc (c : Thread nD τ) ↦{fullShare} g : sProp (MM F))) eA)) $$ HA
    ihave HN := (Entails.of_eq (congrArg (fun g => (cntM.view.loc (c : Thread nD τ) ↦{fullShare} g : sProp (MM F))) eN)) $$ HN
    sl_step
    isplitl [H1]; · iexact H1
    isplitl [H2]; · iexact H2
    isplitl [H3]
    · iexists _; isplitr
      swap; · iexact H3
      ipureintro
      exact last_stored M3 f3 _ _ _ _ e29 e32
    isplitl [HA]; · iexact HA
    iexact HN
  · sl_exec (disch := first | sl_exact hc)
    have eS : k1_pay4 (M1.view.readAt (Elt F) (Rect.unit (s := S1x1x20000) ![0, 0, 0] S1x1x20000.size inb_S1x1x20000_S1x1x20000_0_0_0).toLoadRect f1)
        (M2.view.readAt (Elt F) (Rect.unit (s := S20000x64) ![0, 0] S20000x64.size inb_S20000x64_S20000x64_0_0).toLoadRect f2)
        (accM.view.readAt (Elt F) (Rect.unit (s := S128x64) ![0, 0] S128x64.size inb_S128x64_S128x64_0_0).toLoadRect a)
        = stepSum i (M1.view.read (Elt F) f1) (M2.view.read (Elt F) f2) a := by
      unfold stepSum
      rw [if_neg hc, View.readAt_full, View.readAt_full, View.readAt_full]; rfl
    have eC : k1_pay5 (M1.view.readAt (Elt F) (Rect.unit (s := S1x1x20000) ![0, 0, 0] S1x1x20000.size inb_S1x1x20000_S1x1x20000_0_0_0).toLoadRect f1)
        (cntM.view.readAt (Elt F) (Rect.unit (s := S128x8) ![0, 0] S128x8.size inb_S128x8_S128x8_0_0).toLoadRect n)
        = stepCnt i (M1.view.read (Elt F) f1) n := by
      unfold stepCnt
      rw [if_neg hc, View.readAt_full, View.readAt_full]; rfl
    have eA : accM.view.writes (Elt F) a (point_run.sl.HA_1_1 c M1 M2 f1 f2 a) = stepSum i (M1.view.read (Elt F) f1) (M2.view.read (Elt F) f2) a := by
      rw [← eS]; exact acc_stored a _ _
    have eN : cntM.view.writes (Elt F) n (point_run.sl.HN_1_1 c M1 f1 n) = stepCnt i (M1.view.read (Elt F) f1) n := by
      rw [← eC]; exact cnt_stored n _ _
    have e29 : point_run.sl.v29_1 c M1 f1 n = column (stepCnt i (M1.view.read (Elt F) f1) n) := by
      rw [← eC]; exact cnt_column _ _
    have e32 : point_run.sl.v32_1 c M1 M2 f1 f2 a = stepSum i (M1.view.read (Elt F) f1) (M2.view.read (Elt F) f2) a := by
      rw [← eS]; exact View.readCov_full accM.view _ _ _ _
    ihave HA := (Entails.of_eq (congrArg (fun g => (accM.view.loc (c : Thread nD τ) ↦{fullShare} g : sProp (MM F))) eA)) $$ HA
    ihave HN := (Entails.of_eq (congrArg (fun g => (cntM.view.loc (c : Thread nD τ) ↦{fullShare} g : sProp (MM F))) eN)) $$ HN
    sl_step
    isplitl [H1]; · iexact H1
    isplitl [H2]; · iexact H2
    isplitl [H3]
    · iexists _; isplitr
      swap; · iexact H3
      ipureintro
      exact last_stored M3 f3 _ _ _ _ e29 e32
    isplitl [HA]; · iexact HA
    iexact HN

/-- A whole memref owned is its buffer held whole, at contents that read so. -/
theorem owned_whole (c : Dev nD) {sp : Space} {sh : Shape} {e : EltTy} (M : Memref sig .tc sp sh e) (hM : M.IsWhole) (X : sh.Idx → Elt F e) :
    (owns (c : Thread nD τ) M fullShare X : sProp (MM F))
      = iprop(∃ f : Buf (Elt F) (M.view.loc (c : Thread nD τ)), ⌜M.view.read (Elt F) f = X⌝ ∗ (M.view.loc (c : Thread nD τ) ↦{fullShare} f)) := by
  obtain ⟨b, hsp, hsh, he, h⟩ := hM
  subst hsp hsh he
  cases h
  exact owns_whole_eq (c : Thread nD τ) b fullShare X

/-- The same run over the windows' buffers as the pipeline hands them. -/
theorem point_owned (c : Dev nD) (i : grid1.Coords)
    (M1 : Memref sig .tc .vmem S1x1x20000 .i32) (h1 : M1.IsWhole) (M2 : Memref sig .tc .vmem S20000x64 .f32) (h2 : M2.IsWhole)
    (M3 : Memref sig .tc .vmem S128x64 .f32) (h3 : M3.IsWhole)
    (s : S1x1x20000.Idx → BitVec 32) (x : S20000x64.Idx → F .f32) (o : S128x64.Idx → F .f32)
    (a : S128x64.Idx → F .f32) (n : S128x8.Idx → F .f32) :
    (iprop(owns (c : Thread nD τ) M1 fullShare s ∗ owns (c : Thread nD τ) M2 fullShare x ∗ owns (c : Thread nD τ) M3 fullShare o
        ∗ (accM.view.loc (c : Thread nD τ) ↦{fullShare} a) ∗ (cntM.view.loc (c : Thread nD τ) ↦{fullShare} n)) : sProp (MM F))
      ⊢ wp frame (wpE (defs₀ (F := F)) 𝒱₀ (c : Thread nD τ) none) Set.univ
          (cc1__feat_kernel i M1 h1 M2 h2 M3 h3 accM (Memref.isWhole_whole _) cntM (Memref.isWhole_whole _))
          fun _ => iprop(owns (c : Thread nD τ) M1 fullShare s ∗ owns (c : Thread nD τ) M2 fullShare x
            ∗ owns (c : Thread nD τ) M3 fullShare (if k1_cond2 i = 1#1 then k1_pay6 (column (stepCnt i s n)) (stepSum i s x a) else o)
            ∗ (accM.view.loc (c : Thread nD τ) ↦{fullShare} stepSum i s x a)
            ∗ (cntM.view.loc (c : Thread nD τ) ↦{fullShare} stepCnt i s n)) := by
  rw [owned_whole c M1 h1, owned_whole c M2 h2, owned_whole c M3 h3, owned_whole c M3 h3]
  iintro ⟨⟨%f1, %e1, H1⟩, ⟨%f2, %e2, H2⟩, ⟨%f3, %e3, H3⟩, HA, HN⟩
  subst e1 e2 e3
  iapply (wp_wand_r Idealize.ShloMosaic.frame (wpE (defs₀ (F := F)) 𝒱₀ (c : Thread nD τ) none) Set.univ)
  isplitl [H1 H2 H3 HA HN]
  · iapply (point_run c i M1 h1 M2 h2 M3 h3 f1 f2 f3 a n)
    isplitl [H1]; · iexact H1
    isplitl [H2]; · iexact H2
    isplitl [H3]; · iexact H3
    isplitl [HA]; · iexact HA
    iexact HN
  iintro %_ ⟨H1, H2, H3, HA, HN⟩
  isplitl [H1]; · iexists f1; isplitr; swap; (· iexact H1); ipureintro; rfl
  isplitl [H2]; · iexists f2; isplitr; swap; (· iexact H2); ipureintro; rfl
  isplitl [H3]; · iexact H3
  isplitl [HA]; · iexact HA
  iexact HN

/-! ## The region's proof data, at an entry valuation -/

variable (W : Dev nD → Valuation τ sig (Elt F))

/-- The blocks of labels and of features that point `t` is given. -/
def segBlk (c : Dev nD) (t : Fin cfg1.N) : S1x1x20000.Idx → BitVec 32 :=
  ((cfg1.win 0).blk t).view.read (Elt F) (W c (Proc.devRef .tc main_v33))
def featBlk (c : Dev nD) (t : Fin cfg1.N) : S20000x64.Idx → F .f32 :=
  ((cfg1.win 1).blk t).view.read (Elt F) (W c (Proc.devRef .tc main_arg0))

/-- The sums and the counts before point `n`. -/
def sums (c : Dev nD) : ℕ → S128x64.Idx → F .f32
  | 0 => k1_pay1
  | n + 1 => if h : n < cfg1.N then stepSum (cfg1.grid.coords ⟨n, h⟩) (segBlk W c ⟨n, h⟩) (featBlk W c ⟨n, h⟩) (sums c n) else sums c n
def cnts (c : Dev nD) : ℕ → S128x8.Idx → F .f32
  | 0 => k1_pay2
  | n + 1 => if h : n < cfg1.N then stepCnt (cfg1.grid.coords ⟨n, h⟩) (segBlk W c ⟨n, h⟩) (cnts c n) else cnts c n

/-- What the last point stores. -/
def pooled (c : Dev nD) : S128x64.Idx → F .f32 := k1_pay6 (column (cnts W c cfg1.N)) (sums W c cfg1.N)

/-- The accumulators between points: after the first point they hold the sums and the counts so far. -/
def accInv (c : Dev nD) (n : ℕ) : sProp (MM F) :=
  iprop(∃ (a : S128x64.Idx → F .f32) (k : S128x8.Idx → F .f32), ⌜n ≠ 0 → a = sums W c n ∧ k = cnts W c n⌝
    ∗ (accM.view.loc (c : Thread nD τ) ↦{fullShare} a) ∗ (cntM.view.loc (c : Thread nD τ) ↦{fullShare} k))

def dat (c : Dev nD) : Dat τ (Elt F) (HIx 1) ℕ UU ℕ cfg1 c where
  A w := W c (Proc.devRef .tc (Pipeline.arrRef spec1 w))
  after w t := match w with
    | ⟨0, _⟩ => segBlk W c t
    | ⟨1, _⟩ => featBlk W c t
    | ⟨2, _⟩ => pooled W c
  Φ t := accInv W c t.val
  q _ := fullShare
  owed _ := 0

theorem first_iff : ∀ t : Fin cfg1.N, isFirst (cfg1.grid.coords t) = 1#1 ↔ t.val = 0 := by decide +kernel
theorem last_iff : ∀ t : Fin cfg1.N, k1_cond2 (cfg1.grid.coords t) = 1#1 ↔ t.val = 49 := by decide +kernel

theorem sums_step (c : Dev nD) (t : Fin cfg1.N) (a : S128x64.Idx → F .f32) (h : t.val ≠ 0 → a = sums W c t.val) :
    stepSum (cfg1.grid.coords t) (segBlk W c t) (featBlk W c t) a = sums W c (t.val + 1) := by
  rw [sums, dif_pos t.isLt]
  rcases Classical.em (t.val = 0) with h0 | h0
  · unfold stepSum; rw [if_pos ((first_iff t).mpr h0), if_pos ((first_iff t).mpr h0)]
  · rw [h h0]
theorem cnts_step (c : Dev nD) (t : Fin cfg1.N) (k : S128x8.Idx → F .f32) (h : t.val ≠ 0 → k = cnts W c t.val) :
    stepCnt (cfg1.grid.coords t) (segBlk W c t) k = cnts W c (t.val + 1) := by
  rw [cnts, dif_pos t.isLt]
  rcases Classical.em (t.val = 0) with h0 | h0
  · unfold stepCnt; rw [if_pos ((first_iff t).mpr h0), if_pos ((first_iff t).mpr h0)]
  · rw [h h0]

theorem before_seg (c : Dev nD) (t : Fin cfg1.N) (d : (cfg1.win 0).block.Idx → Elt F (cfg1.win 0).elt) : (dat W c).before 0 t d = segBlk W c t := by
  unfold Dat.before; rw [if_pos (fetch1_0 t)]; rfl
theorem before_feat (c : Dev nD) (t : Fin cfg1.N) (d : (cfg1.win 1).block.Idx → Elt F (cfg1.win 1).elt) : (dat W c).before 1 t d = featBlk W c t := by
  unfold Dat.before; rw [if_pos (fetch1_1 t)]; rfl

theorem leaves_seg (c : Dev nD) (t : Fin cfg1.N) :
    ((dat W c).leavesExact 0 t : sProp (MM F)) = owns (c : Thread nD τ) ((cfg1.win 0).stage (cfg1.slots t 0)) fullShare (segBlk W c t) := rfl
theorem leaves_feat (c : Dev nD) (t : Fin cfg1.N) :
    ((dat W c).leavesExact 1 t : sProp (MM F)) = owns (c : Thread nD τ) ((cfg1.win 1).stage (cfg1.slots t 1)) fullShare (featBlk W c t) := rfl

/-- The result's buffer is left as found before the last point and at the pooled block by it. -/
theorem leaves_out (c : Dev nD) (t : Fin cfg1.N) (d : (cfg1.win 2).block.Idx → Elt F (cfg1.win 2).elt) :
    (owns (c : Thread nD τ) ((cfg1.win 2).stage (cfg1.slots t 2)) fullShare
      (if k1_cond2 (cfg1.grid.coords t) = 1#1 then k1_pay6 (column (cnts W c (t.val + 1))) (sums W c (t.val + 1)) else (dat W c).before 2 t d) : sProp (MM F))
      ⊢ (dat W c).leavesExact 2 t := by
  unfold Dat.leavesExact
  rcases Classical.em (k1_cond2 (cfg1.grid.coords t) = 1#1) with h | h
  · have e : cfg1.idle 2 (cfg1.grid.coords t) = false := by
      show (!(k1_cond2 (cfg1.grid.coords t) == 1#1)) = false
      rw [h]; rfl
    rw [if_pos h, e, (last_iff t).mp h]
    exact .rfl
  · have e : cfg1.idle 2 (cfg1.grid.coords t) = true := by
      show (!(k1_cond2 (cfg1.grid.coords t) == 1#1)) = true
      rw [Bool.not_eq_true', beq_eq_false_iff_ne]; exact h
    have ef : (cfg1.win 2).flush t = false := by
      rw [← Bool.not_eq_true, flush1_2 t]
      have h50 : t.val < 50 := lt_of_lt_of_eq t.isLt N_1
      exact fun e => h ((last_iff t).mpr ((Nat.mod_eq_of_lt h50).symm.trans e))
    rw [if_neg h, e, ef]
    iintro H; iexists d; iexact H

/-- The library's body obligation. -/
theorem body_obligation (c : Dev nD) : Pipeline.BodyObligation (dat W c) (defs₀ (F := F)) 𝒱₀ (default : HIx 1) Set.univ := fun t => by
  show iprop((dat W c).Φ t.castSucc ∗ (dat W c).owesAt (default : HIx 1) t.castSucc
      ∗ bigSep Finset.univ fun w : Fin cfg1.W => iprop(∃ d, owns (c : Thread nD τ) ((cfg1.win w).stage (cfg1.slots t w)) fullShare ((dat W c).before w t d)))
    ⊢ wp frame (wpE (defs₀ (F := F)) 𝒱₀ (c : Thread nD τ) none) Set.univ (bodyAt1 t) fun _ =>
      iprop((dat W c).Φ t.succ ∗ (dat W c).owesAt (default : HIx 1) t.succ ∗ bigSep Finset.univ fun w : Fin cfg1.W => (dat W c).leavesExact w t)
  rw [bigSep_W1, bigSep_W1, leaves_seg, leaves_feat]
  rw [show (dat W c).Φ t.castSucc = accInv W c t.val from rfl, show (dat W c).Φ t.succ = accInv W c (t.val + 1) from rfl,
    show (dat W c).owesAt (default : HIx 1) t.succ = (dat W c).owesAt (default : HIx 1) t.castSucc from rfl]
  iintro ⟨HΦ, Howes, ⟨%d0, H0⟩, ⟨%d1, H1⟩, ⟨%d2, H2⟩⟩
  unfold accInv
  icases HΦ with ⟨%a, %k, %hak, HA, HN⟩
  rw [before_seg, before_feat]
  iapply (wp_wand_r Idealize.ShloMosaic.frame (wpE (defs₀ (F := F)) 𝒱₀ (c : Thread nD τ) none) Set.univ)
  isplitl [H0 H1 H2 HA HN]
  · iapply (point_owned c (cfg1.grid.coords t) _ _ _ _ _ _ (segBlk W c t) (featBlk W c t) ((dat W c).before 2 t d2) a k)
    isplitl [H0]; · iexact H0
    isplitl [H1]; · iexact H1
    isplitl [H2]; · iexact H2
    isplitl [HA]; · iexact HA
    iexact HN
  rw [sums_step W c t a fun h => (hak h).1, cnts_step W c t k fun h => (hak h).2]
  iintro %_ ⟨H0, H1, H2, HA, HN⟩
  isplitl [HA HN]
  · iexists _; iexists _; isplitr
    swap
    · isplitl [HA]; · iexact HA
      iexact HN
    ipureintro; exact fun _ => ⟨rfl, rfl⟩
  isplitl [Howes]; · iexact Howes
  isplitl [H0]; · iexact H0
  isplitl [H1]; · iexact H1
  iapply (leaves_out W c t d2) $$ H2

/-! ## The region -/

/-- The tables of the pipeline: none. -/
abbrev adm : (p : Fin 1) → (pcfgs (F := F) p).Adm := fun q => (cfgs q).toPCfg_adm
/-- The proof data of the one pipeline. -/
abbrev pdats : (p : Fin 1) → (c : Dev nD) → Dat τ (Elt F) (HIx 1) ℕ UU ℕ (Pipeline.pin (pcfgs (F := F)) adm p) c := fun _ c => dat W c

theorem kitP : Pipeline.PLaunchFacts (nD := nD) (τ := τ) (pcfgs (F := F)) 0 := launch1.toP

theorem cut0 : Pipeline.LevelCut (nD := nD) (pcfgs (F := F)) adm (default : HIx 1) (K (F := F)).L (K (F := F)).lev 0 (fun _ => 0) (fun _ => 0) where
  hι _ _ _ := Finset.mem_univ _
  hιb _ _ _ := le_refl _
  hD _ g i h := absurd h (lt_irrefl _)

/-- The accumulators enter the region with the core's other scoped buffers and leave with them. -/
theorem acc_in (c : Dev nD) : iprop(Pipeline.scopedRest (Pipeline.pin (pcfgs (F := F)) adm 0).spec c ∗ emp) ⊢ (dat W c).Φ 0 := by
  show iprop(Pipeline.scopedRest spec1 c ∗ emp) ⊢ accInv W c 0
  rw [scopedRest1_eq]
  unfold accInv
  iintro ⟨⟨⟨%a, HA⟩, ⟨%k, HN⟩⟩, -⟩
  iexists a; iexists k; isplitr
  swap
  · isplitl [HA]; · iexact HA
    iexact HN
  ipureintro; exact fun h => absurd rfl h
theorem acc_out (c : Dev nD) :
    (dat W c).Φ (Fin.last (Pipeline.pin (pcfgs (F := F)) adm 0).N) ⊢ iprop(Pipeline.scopedRest (Pipeline.pin (pcfgs (F := F)) adm 0).spec c ∗ emp) := by
  show accInv W c _ ⊢ iprop(Pipeline.scopedRest spec1 c ∗ emp)
  rw [scopedRest1_eq]
  unfold accInv
  iintro ⟨%a, %k, -, HA, HN⟩
  isplitl [HA HN]
  · isplitl [HA]; · iexists a; iexact HA
    iexists k; iexact HN
  iempintro

/-- The region over the held buffers. -/
def region (S : Finset (DevRef τ sig)) :
    Pipeline.RegionSeg (pcfgs (F := F)) adm (pdats W) (default : HIx 1) defs₀ 𝒱₀ (K (F := F)).L (K (F := F)).lev 0 :=
  Pipeline.RegionSeg.ofHeldIn (pcfgs (F := F)) adm (pdats W) (default : HIx 1) defs₀ 𝒱₀ (K (F := F)).L (K (F := F)).lev 0 (fun _ => 0) S
    (fun _ => iprop(emp)) (fun _ => iprop(emp)) kitP rfl (fun c => (body_obligation W c).loose) (fun _ _ => rfl) (fun _ => rfl)
    (fun c => (dat W c).share_full fun _ => rfl) (acc_in W) (acc_out W) (fun _ => 0) cut0 (fun _ => iprop(emp)) W (fun _ _ => rfl)

/-- The pipeline's ghost state on device `c`: its staging cells and their tokens. -/
abbrev cellsG (c : Dev nD) : sProp (MM F) :=
  iprop(Pipeline.cellsGhost (Pipeline.pin (pcfgs (F := F)) adm) EP 0 c ∗ Pipeline.toksInit (Pipeline.pin (pcfgs (F := F)) adm) EP 0 c)

/-- The buffers after the region. -/
abbrev afterPool (c : Dev nD) : Valuation τ sig (Elt F) := Pipeline.afterRegion (dat W c) (W c)

/-- What the thread holds of the rest of the machine over the region: nothing owed. -/
abbrev noDebt (c : Dev nD) : sProp (MM F) := iprop(∃ Wd, owes (c.tc : Thread nD τ) (0 : CellTallies nD τ sig (HIx 1)) Wd)

theorem region_post (c : Dev nD) {S : Finset (DevRef τ sig)} (hS : Pipeline.arrRefs (τ := τ) spec1 ⊆ S) :
    (region W S).post c ⊢ iprop(held (c.tc : Thread nD τ) S (afterPool W c) ∗ noDebt c) := by
  have h := Pipeline.RegionSeg.ofHeldIn_post (pcs := pcfgs (F := F)) (a := adm) (pdats := pdats W) (ι := (default : HIx 1)) (defs₀ := defs₀) (𝒱₀ := 𝒱₀)
    (L := (K (F := F)).L) (lv := (K (F := F)).lev) (p := 0) (D := fun _ => 0) (S := S) hS (X := fun _ => iprop(emp)) (Y := fun _ => iprop(emp))
    (kit := kitP) (hK := rfl) (hbody := fun c => (body_obligation W c).loose) (howed := fun _ _ => rfl) (hrec := fun _ => rfl)
    (hshare := fun c => (dat W c).share_full fun _ => rfl) (hin := acc_in W) (hout := acc_out W) (b := fun _ => 0) (hcut := cut0)
    (R := fun _ => iprop(emp)) (W := W) (hW := fun _ _ => rfl) c
  unfold region
  refine h.trans ?_
  iintro ⟨Hh, HO, -, -⟩
  isplitl [Hh]; · iexact Hh
  iexact HO

theorem region_pre (c : Dev nD) {S : Finset (DevRef τ sig)} (hS : Pipeline.arrRefs (τ := τ) spec1 ⊆ S) :
    iprop(held (c.tc : Thread nD τ) S (W c) ∗ noDebt c) ⊢ (region W S).pre c := by
  have h := Pipeline.RegionSeg.ofHeldIn_pre (pcs := pcfgs (F := F)) (a := adm) (pdats := pdats W) (ι := (default : HIx 1)) (defs₀ := defs₀) (𝒱₀ := 𝒱₀)
    (L := (K (F := F)).L) (lv := (K (F := F)).lev) (p := 0) (D := fun _ => 0) (S := S) hS (X := fun _ => iprop(emp)) (Y := fun _ => iprop(emp))
    (kit := kitP) (hK := rfl) (hbody := fun c => (body_obligation W c).loose) (howed := fun _ _ => rfl) (hrec := fun _ => rfl)
    (hshare := fun c => (dat W c).share_full fun _ => rfl) (hin := acc_in W) (hout := acc_out W) (b := fun _ => 0) (hcut := cut0)
    (R := fun _ => iprop(emp)) (W := W) (hW := fun _ _ => rfl) c
  unfold region
  refine BIBase.Entails.trans ?_ h
  iintro ⟨Hh, HO⟩
  isplitl [Hh]; · iexact Hh
  isplitl [HO]; · iexact HO
  isplitr <;> iempintro

theorem region_wp [∀ e, Nonempty (Elt F e)] (c : Dev nD) (S : Finset (DevRef τ sig)) (hS : Pipeline.arrRefs (τ := τ) spec1 ⊆ S) (Q : PUnit → sProp (MM F)) :
    iprop((iprop(boundary (c.tc : Thread nD τ) ∗ held (c.tc : Thread nD τ) S (afterPool W c) ∗ ∃ Wd, owes (c.tc : Thread nD τ) (0 : CellTallies nD τ sig (HIx 1)) Wd) -∗ Q ⟨⟩)
        ∗ boundary (c.tc : Thread nD τ) ∗ held (c.tc : Thread nD τ) S (W c) ∗ (∃ Wd, owes (c.tc : Thread nD τ) (0 : CellTallies nD τ sig (HIx 1)) Wd)
        ∗ levAts (K (F := F)).L (K (F := F)).lev ∗ cellsG c)
      ⊢ wp frame (wpE ((K (F := F)).defs D) 𝒱 (c.tc : Thread nD τ) none) Set.univ
          (Prog.lift (.customCall (SparseCore.inner (Pipeline.entry 0)) ()) : Prog (TpuEff nD τ sig (Elt F) _ .tc) PUnit) Q := by
  have hwp := Pipeline.RegionSeg.wp (pcfgs (F := F)) adm (pdats W) (default : HIx 1) (kitP.cellOf_inj adm) EP defs₀ 𝒱₀ (K (F := F)).L (K (F := F)).lev
    (region W S) c none (fun _ h => nomatch h) (fun _ => (Prog.ret PUnit.unit)) Q
  refine BIBase.Entails.trans ?_ ((hwp.trans ((K (F := F)).wp_liftProg D 𝒱 (c.tc : Thread nD τ) Set.univ none
    (.op (.customCall (Pipeline.entry 0) ()) fun _ => Prog.ret PUnit.unit) Q)))
  iintro ⟨Hk, Hb, Hh, HO, Hlv, Hg, Ht⟩
  isplitl [Hk]
  · iintro ⟨Hb, Hp⟩
    ihave Hp := (region_post W c hS) $$ Hp
    icases Hp with ⟨Hh, HO⟩
    rw [wp_ret]
    imodintro
    iapply Hk
    isplitl [Hb]; · iexact Hb
    isplitl [Hh]; · iexact Hh
    iexact HO
  isplitl [Hb]; · iexact Hb
  isplitl [Hh HO]
  · iapply (region_pre W c hS)
    isplitl [Hh]; · iexact Hh
    iexact HO
  isplitl [Hlv]; · iexact Hlv
  isplitl [Hg]; · iexact Hg
  iexact Ht

end Cert.Proof.Bin

end
-- ==== Proof.Host.lean ====
/- @main of the kernel on a device's TensorCore: the host operations that compute the batches' means, the SparseCore call that labels
   the points, and the pooling. What every buffer holds at the end follows. -/
module

public import proofs.«01_k».proof.Proof.Deal
public import proofs.«01_k».proof.Proof.Region

@[expose] public section

noncomputable section

namespace Cert.Proof.Bin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

/-- The operations before the SparseCore call, the reshape between the two kernels, and the one after them. -/
abbrev hostPre : List (HloOp τ sig (Elt F)) := [
  StableHlo.unary main_arg1 main_v0 ((extractStridedSlice S1000000x1 ![0, 0] · slices_S1000000x3_S1000000x1_0_0) : (⟨S1000000x3, .i32⟩ : BufTy).Contents (Elt F) → (⟨S1000000x1, .i32⟩ : BufTy).Contents (Elt F)),
  StableHlo.reshape main_v0 main_v1 (rfl : (.i32 : EltTy) = .i32) shapeCasts_S1000000x1_S1000000,
  StableHlo.unary main_arg1 main_v2 ((extractStridedSlice S1000000x1 ![0, 1] · slices_S1000000x3_S1000000x1_0_1) : (⟨S1000000x3, .i32⟩ : BufTy).Contents (Elt F) → (⟨S1000000x1, .i32⟩ : BufTy).Contents (Elt F)),
  StableHlo.reshape main_v2 main_v3 (rfl : (.i32 : EltTy) = .i32) shapeCasts_S1000000x1_S1000000,
  StableHlo.unary main_arg1 main_v4 ((extractStridedSlice S1000000x1 ![0, 2] · slices_S1000000x3_S1000000x1_0_2) : (⟨S1000000x3, .i32⟩ : BufTy).Contents (Elt F) → (⟨S1000000x1, .i32⟩ : BufTy).Contents (Elt F)),
  StableHlo.reshape main_v4 main_v5 (rfl : (.i32 : EltTy) = .i32) shapeCasts_S1000000x1_S1000000,
  StableHlo.unary main_arg1 main_v6 (sitofp .f32 : (⟨S1000000x3, .i32⟩ : BufTy).Contents (Elt F) → (⟨S1000000x3, .f32⟩ : BufTy).Contents (Elt F)),
  StableHlo.nullary main_cst (constant S_ .f32 0x00000000#32),
  StableHlo.unary main_cst main_v7 (broadcastInDim S8x3 ![] bcast_S_S8x3 : (⟨S_, .f32⟩ : BufTy).Contents (Elt F) → (⟨S8x3, .f32⟩ : BufTy).Contents (Elt F)),
  StableHlo.unary main_arg2 main_v8 (broadcastInDim S1000000x1 ![0] bcast_S1000000_S1000000x1_0 : (⟨S1000000, .i32⟩ : BufTy).Contents (Elt F) → (⟨S1000000x1, .i32⟩ : BufTy).Contents (Elt F)),
  StableHlo.ternary main_v7 main_v8 main_v6 main_v9 ((fun x i u => Host.scatterAdd scatter_S8x3_S1000000x1_S1000000x3_1_0_0_1 x i u) : (⟨S8x3, .f32⟩ : BufTy).Contents (Elt F) → (⟨S1000000x1, .i32⟩ : BufTy).Contents (Elt F) → (⟨S1000000x3, .f32⟩ : BufTy).Contents (Elt F) → (⟨S8x3, .f32⟩ : BufTy).Contents (Elt F)),
  StableHlo.nullary main_cst_0 (constant S_ .f32 0x3F800000#32),
  StableHlo.unary main_cst_0 main_v10 (broadcastInDim S1000000 ![] bcast_S_S1000000 : (⟨S_, .f32⟩ : BufTy).Contents (Elt F) → (⟨S1000000, .f32⟩ : BufTy).Contents (Elt F)),
  StableHlo.nullary main_cst_1 (constant S_ .f32 0x00000000#32),
  StableHlo.unary main_cst_1 main_v11 (broadcastInDim S8 ![] bcast_S_S8 : (⟨S_, .f32⟩ : BufTy).Contents (Elt F) → (⟨S8, .f32⟩ : BufTy).Contents (Elt F)),
  StableHlo.unary main_arg2 main_v12 (broadcastInDim S1000000x1 ![0] bcast_S1000000_S1000000x1_0 : (⟨S1000000, .i32⟩ : BufTy).Contents (Elt F) → (⟨S1000000x1, .i32⟩ : BufTy).Contents (Elt F)),
  StableHlo.ternary main_v11 main_v12 main_v10 main_v13 ((fun x i u => Host.scatterAdd scatter_S8_S1000000x1_S1000000_n_0_0_1 x i u) : (⟨S8, .f32⟩ : BufTy).Contents (Elt F) → (⟨S1000000x1, .i32⟩ : BufTy).Contents (Elt F) → (⟨S1000000, .f32⟩ : BufTy).Contents (Elt F) → (⟨S8, .f32⟩ : BufTy).Contents (Elt F)),
  StableHlo.nullary main_cst_2 (constant S_ .f32 0x3F800000#32),
  StableHlo.unary main_cst_2 main_v14 (broadcastInDim S8 ![] bcast_S_S8 : (⟨S_, .f32⟩ : BufTy).Contents (Elt F) → (⟨S8, .f32⟩ : BufTy).Contents (Elt F)),
  StableHlo.binary main_v13 main_v14 main_v15 (maximumf : (⟨S8, .f32⟩ : BufTy).Contents (Elt F) → (⟨S8, .f32⟩ : BufTy).Contents (Elt F) → (⟨S8, .f32⟩ : BufTy).Contents (Elt F)),
  StableHlo.unary main_v15 main_v16 (broadcastInDim S8x1 ![0] bcast_S8_S8x1_0 : (⟨S8, .f32⟩ : BufTy).Contents (Elt F) → (⟨S8x1, .f32⟩ : BufTy).Contents (Elt F)),
  StableHlo.unary main_v16 main_v17 (broadcastInDim S8x3 ![0, 1] bcast_S8x1_S8x3_0_1 : (⟨S8x1, .f32⟩ : BufTy).Contents (Elt F) → (⟨S8x3, .f32⟩ : BufTy).Contents (Elt F)),
  StableHlo.binary main_v9 main_v17 main_v18 (Host.divf : (⟨S8x3, .f32⟩ : BufTy).Contents (Elt F) → (⟨S8x3, .f32⟩ : BufTy).Contents (Elt F) → (⟨S8x3, .f32⟩ : BufTy).Contents (Elt F)),
  StableHlo.unary main_v18 main_v19 ((extractStridedSlice S8x1 ![0, 0] · slices_S8x3_S8x1_0_0) : (⟨S8x3, .f32⟩ : BufTy).Contents (Elt F) → (⟨S8x1, .f32⟩ : BufTy).Contents (Elt F)),
  StableHlo.reshape main_v19 main_v20 (rfl : (.f32 : EltTy) = .f32) shapeCasts_S8x1_S8,
  StableHlo.unary main_v20 main_v21 (broadcastInDim S8x16 ![0] bcast_S8_S8x16_0 : (⟨S8, .f32⟩ : BufTy).Contents (Elt F) → (⟨S8x16, .f32⟩ : BufTy).Contents (Elt F)),
  StableHlo.reshape main_v21 main_v22 (rfl : (.f32 : EltTy) = .f32) shapeCasts_S8x16_S128,
  StableHlo.unary main_v18 main_v23 ((extractStridedSlice S8x1 ![0, 1] · slices_S8x3_S8x1_0_1) : (⟨S8x3, .f32⟩ : BufTy).Contents (Elt F) → (⟨S8x1, .f32⟩ : BufTy).Contents (Elt F)),
  StableHlo.reshape main_v23 main_v24 (rfl : (.f32 : EltTy) = .f32) shapeCasts_S8x1_S8,
  StableHlo.unary main_v24 main_v25 (broadcastInDim S8x16 ![0] bcast_S8_S8x16_0 : (⟨S8, .f32⟩ : BufTy).Contents (Elt F) → (⟨S8x16, .f32⟩ : BufTy).Contents (Elt F)),
  StableHlo.reshape main_v25 main_v26 (rfl : (.f32 : EltTy) = .f32) shapeCasts_S8x16_S128,
  StableHlo.unary main_v18 main_v27 ((extractStridedSlice S8x1 ![0, 2] · slices_S8x3_S8x1_0_2) : (⟨S8x3, .f32⟩ : BufTy).Contents (Elt F) → (⟨S8x1, .f32⟩ : BufTy).Contents (Elt F)),
  StableHlo.reshape main_v27 main_v28 (rfl : (.f32 : EltTy) = .f32) shapeCasts_S8x1_S8,
  StableHlo.unary main_v28 main_v29 (broadcastInDim S8x16 ![0] bcast_S8_S8x16_0 : (⟨S8, .f32⟩ : BufTy).Contents (Elt F) → (⟨S8x16, .f32⟩ : BufTy).Contents (Elt F)),
  StableHlo.reshape main_v29 main_v30 (rfl : (.f32 : EltTy) = .f32) shapeCasts_S8x16_S128,
  StableHlo.nary ![main_v22, main_v26, main_v30] main_v31 (fun u => (concatenate S384 0 [⟨S128, (u 0 : (⟨S128, .f32⟩ : BufTy).Contents (Elt F))⟩, ⟨S128, (u 1 : (⟨S128, .f32⟩ : BufTy).Contents (Elt F))⟩, ⟨S128, (u 2 : (⟨S128, .f32⟩ : BufTy).Contents (Elt F))⟩] concatenates_S128_S128_S128_S384_d0 : (⟨S384, .f32⟩ : BufTy).Contents (Elt F)))]
abbrev hostMid : List (HloOp τ sig (Elt F)) := [StableHlo.reshape main_v32 main_v33 (rfl : (.i32 : EltTy) = .i32) shapeCasts_S1000000_S50x1x20000]
abbrev hostPost : List (HloOp τ sig (Elt F)) := [StableHlo.reshape main_v34 main_v35 (rfl : (.f32 : EltTy) = .f32) shapeCasts_S128x64_S8x1024]

theorem main_eq (d : Dev nD) : main (F := F) d = StableHlo.seqK hostPre (sc.run d 0 >>= fun _ => StableHlo.seqK hostMid
    (Prog.lift (.customCall (SparseCore.inner (Pipeline.entry 0)) ()) >>= fun _ => StableHlo.seqK hostPost (pure ⟨⟩))) := rfl

theorem hostPre_sub : (hostPre (F := F)).Forall fun op => op.bufs ⊆ StableHlo.tcRefs τ sig := by
  simp only [List.forall_cons, List.Forall, StableHlo.nullary_bufs_sub, StableHlo.unary_bufs_sub, StableHlo.binary_bufs_sub, StableHlo.ternary_bufs_sub,
    StableHlo.reshape_bufs_sub, StableHlo.nary_bufs_sub, and_self]
theorem hostMid_sub : (hostMid (F := F)).Forall fun op => op.bufs ⊆ StableHlo.tcRefs τ sig := by
  simp only [List.Forall, StableHlo.reshape_bufs_sub]
theorem hostPost_sub : (hostPost (F := F)).Forall fun op => op.bufs ⊆ StableHlo.tcRefs τ sig := by
  simp only [List.Forall, StableHlo.reshape_bufs_sub]
theorem hostPre_fresh : (hostPre (F := F)).Forall fun op => op.fresh = ∅ := StableHlo.forall_fresh_of_map rfl
theorem hostMid_fresh : (hostMid (F := F)).Forall fun op => op.fresh = ∅ := StableHlo.forall_fresh_of_map rfl
theorem hostPost_fresh : (hostPost (F := F)).Forall fun op => op.fresh = ∅ := StableHlo.forall_fresh_of_map rfl

variable (m : (ℓ : Loc nD τ sig) → Buf (Elt F) ℓ)

/-- The device's buffers at the SparseCore call, what the call is given, and the buffers after each step. -/
abbrev atCall (d : Dev nD) : Valuation τ sig (Elt F) := StableHlo.after hostPre (StableHlo.launchContents m d)
abbrev given (d : Dev nD) : Given F where
  xs := atCall m d (Proc.devRef .tc main_v1)
  ys := atCall m d (Proc.devRef .tc main_v3)
  zs := atCall m d (Proc.devRef .tc main_v5)
  bs := atCall m d (Proc.devRef .tc main_arg2)
  ms := atCall m d (Proc.devRef .tc main_v31)
  old := atCall m d (Proc.devRef .tc main_v32)
def afterCall (d : Dev nD) : Valuation τ sig (Elt F) := Function.update (atCall m d) (Proc.devRef .tc main_v32) (labelled (given m) d)
abbrev atPool (d : Dev nD) : Valuation τ sig (Elt F) := StableHlo.after hostMid (afterCall m d)
abbrev atEnd (d : Dev nD) : Valuation τ sig (Elt F) := StableHlo.after hostPost (afterPool (atPool m) d)

/-- The buffers the SparseCore call takes. -/
abbrev callRefs : Finset (DevRef τ sig) :=
  ({main_v1, main_v3, main_v5, main_arg2, main_v31, main_v32} : Finset (Ref sig .tc)).map ⟨Proc.devRef .tc, Proc.devRef_injective _⟩

theorem callRefs_sub : callRefs ⊆ Pipeline.ucRefs τ sig := by
  intro b hb
  obtain ⟨r, hr, rfl⟩ := Finset.mem_map.mp hb
  refine Finset.mem_filter.mpr ⟨StableHlo.devRef_mem_tcRefs r, ?_⟩
  revert r; decide

omit [FloatOps F] in
theorem held_callRefs (d : Dev nD) (V : Valuation τ sig (Elt F)) : (held (d.tc : Thread nD τ) callRefs V : sProp (MM F))
    = iprop(((T d : Thread nD τ).loc main_v1 ↦{fullShare} V (Proc.devRef .tc main_v1)) ∗ ((T d : Thread nD τ).loc main_v3 ↦{fullShare} V (Proc.devRef .tc main_v3))
      ∗ ((T d : Thread nD τ).loc main_v5 ↦{fullShare} V (Proc.devRef .tc main_v5)) ∗ ((T d : Thread nD τ).loc main_arg2 ↦{fullShare} V (Proc.devRef .tc main_arg2))
      ∗ ((T d : Thread nD τ).loc main_v31 ↦{fullShare} V (Proc.devRef .tc main_v31)) ∗ ((T d : Thread nD τ).loc main_v32 ↦{fullShare} V (Proc.devRef .tc main_v32))) := by
  unfold StableHlo.held callRefs
  rw [bigSep_map, SparseCore.bigSep_insert' (by decide), SparseCore.bigSep_insert' (by decide), SparseCore.bigSep_insert' (by decide),
    SparseCore.bigSep_insert' (by decide), SparseCore.bigSep_insert' (by decide), bigSep_singleton]
  rfl

end Cert.Proof.Bin

end
-- ==== Proof.Main.lean ====
/- The run of the kernel: every device's TensorCore ends with its buffers at `atEnd`, and every counter is back at zero. -/
module

public import proofs.«01_k».proof.Proof.Host

@[expose] public section

noncomputable section

namespace Cert.Proof.Bin

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] (m : (ℓ : Loc nD τ sig) → Buf (Elt F) ℓ) (ρ : Dev nD → PrngReg)

/-- The call's buffers at contents that agree with what the call is given, but for the labels. -/
theorem call_eq (d : Dev nD) (V : Valuation τ sig (Elt F)) (h1 : V (Proc.devRef .tc main_v1) = (given m d).xs) (h3 : V (Proc.devRef .tc main_v3) = (given m d).ys)
    (h5 : V (Proc.devRef .tc main_v5) = (given m d).zs) (hb : V (Proc.devRef .tc main_arg2) = (given m d).bs) (hm : V (Proc.devRef .tc main_v31) = (given m d).ms) :
    (held (d.tc : Thread nD τ) callRefs V : sProp (MM F)) = iprop(reads (given m) d fullShare ∗ seg d Finset.univ (V (Proc.devRef .tc main_v32))) := by
  rw [held_callRefs, h1, h3, h5, hb, hm]
  unfold reads
  iterate 4 rw [show ∀ X Y Z : sProp (MM F), iprop((X ∗ Y) ∗ Z) = iprop(X ∗ Y ∗ Z) from fun _ _ _ => BI.Entails.antisymm BI.sep_assoc BI.sep_assoc']

theorem afterCall_seg (d : Dev nD) : afterCall m d (Proc.devRef .tc main_v32) = labelled (given m) d := Function.update_self _ _ _
theorem afterCall_other (d : Dev nD) {r : Ref sig .tc} (h : r ≠ main_v32) : afterCall m d (Proc.devRef .tc r) = atCall m d (Proc.devRef .tc r) :=
  Function.update_of_ne (fun e => h (Proc.devRef_injective _ e)) _ _

/-- The buffers go into the call: what it reads and the labels, out of the held set. -/
theorem into_call (d : Dev nD) : (held (d.tc : Thread nD τ) (Pipeline.ucRefs τ sig) (atCall m d) : sProp (MM F))
    = iprop((reads (given m) d fullShare ∗ seg d Finset.univ (given m d).old)
      ∗ held (d.tc : Thread nD τ) (Pipeline.ucRefs τ sig \ callRefs) (atCall m d)) := by
  rw [StableHlo.held_sub_split (d.tc : Thread nD τ) callRefs_sub, call_eq m d (atCall m d) rfl rfl rfl rfl rfl]

/-- They come back from it with the labels stored. -/
theorem out_of_call (d : Dev nD) : (held (d.tc : Thread nD τ) (Pipeline.ucRefs τ sig) (afterCall m d) : sProp (MM F))
    = iprop((reads (given m) d fullShare ∗ seg d Finset.univ (labelled (given m) d))
      ∗ held (d.tc : Thread nD τ) (Pipeline.ucRefs τ sig \ callRefs) (atCall m d)) := by
  rw [StableHlo.held_sub_split (d.tc : Thread nD τ) callRefs_sub, call_eq m d (afterCall m d) (afterCall_other m d (by decide)) (afterCall_other m d (by decide))
      (afterCall_other m d (by decide)) (afterCall_other m d (by decide)) (afterCall_other m d (by decide)), afterCall_seg,
    StableHlo.held_congr (d.tc : Thread nD τ) (V := afterCall m d) (V' := atCall m d) fun b hb => ?_]
  refine Function.update_of_ne (fun e => (Finset.mem_sdiff.mp hb).2 ?_) _ _
  rw [e]
  exact Finset.mem_map_of_mem _ (by decide)

/-! ## @main on the TensorCore -/

theorem arrs_sub : Pipeline.arrRefs (τ := τ) spec1 ⊆ Pipeline.ucRefs τ sig := by
  intro b hb
  obtain ⟨r, hr, rfl⟩ := Finset.mem_map.mp hb
  refine Finset.mem_filter.mpr ⟨StableHlo.devRef_mem_tcRefs r, ?_⟩
  revert r; decide

/-- What the TensorCore owes after the call: nothing; whatever it has recorded lies below the calls' end. -/
theorem noDebt_in (d : Dev nD) : (K (F := F)).tcSt EH d 1 ⊢ (iprop(noDebt d
      ∗ (noDebt d -∗ (K (F := F)).tcSt EH d 1)) : sProp (MM F)) := by
  unfold SparseCore.Cfg.tcSt
  rw [show (K (F := F)).Otc d 1 = 0 from Finset.sum_eq_zero fun q _ => if_neg (by have := q.isLt; omega)]
  iintro ⟨⟨%W, -, HO⟩, Hr⟩
  isplitl [HO]; · iexists W; iexact HO
  iintro ⟨%W', HO⟩
  isplitl [HO]
  · iexists W'; isplitr
    swap; · iexact HO
    ipureintro
    intro p _
    rcases p.2 with _ | q
    · exact Nat.zero_le _
    · exact ((K (F := F)).lev_some_le _ q).trans (show 8 * q.val + 7 ≤ 8 * 1 by have := q.isLt; omega)
  iexact Hr

abbrev FIN (d : Dev nD) : sProp (MM F) := held (d.tc : Thread nD τ) (Pipeline.ucRefs τ sig) (atEnd m d)

theorem hmain [∀ e, Nonempty (Elt F e)] (κ : GSem nD τ sig → ℕ) (d : Dev nD) :
    iprop((K (F := F)).ctx EH (P (given m)) κ ∗ (K (F := F)).tcSt EH d 0 ∗ (K (F := F)).tcRes m ρ d ∗ cellsG d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = held (d.tc : Thread nD τ) (Pipeline.ucRefs τ sig) (StableHlo.launchContents m d)
    from Pipeline.unscopedBufs_held d (StableHlo.launchContents m d)]
  rw [main_eq, ← StableHlo.seq_bind_seqK]
  iintro ⟨#Hctx, Hst, ⟨Hb, Hh, Hts, -⟩, HG⟩
  iapply (StableHlo.wp_seq 𝒱 none Set.univ d (Pipeline.ucRefs τ sig) _ hostPre
    (fun op h => Pipeline.sub_ucRefs op ((List.forall_iff_forall_mem.mp hostPre_sub) op h)) (List.forall_iff_forall_mem.mp hostPre_fresh) (StableHlo.launchContents m d)) $$ [Hb Hh]
  · isplitl [Hb] <;> iassumption
  iintro ⟨Hb, Hh⟩
  ihave Hh := (Entails.of_eq (into_call m d)) $$ Hh
  icases Hh with ⟨Hc, Hrest⟩
  rw [wp_bind]
  iapply ((K (F := F)).wp_run (D (F := F)) 𝒱 (EH := EH) (P := P (given m)) κ d 0) $$ [Hst Hc Hb Hts Hrest HG]
  isplitr; · iexact Hctx
  isplitl [Hst]; · iexact Hst
  isplitl [Hc]
  · rw [st_eq]; iexact Hc
  iintro ⟨Hst, Hdn⟩
  ihave Hdn := (Entails.of_eq (dn_eq (given m) d)) $$ Hdn
  ihave Hh := (Entails.of_eq (out_of_call m d).symm) $$ [Hdn Hrest]
  · isplitl [Hdn] <;> iassumption
  rw [← StableHlo.seq_bind_seqK]
  iapply (StableHlo.wp_seq 𝒱 none Set.univ d (Pipeline.ucRefs τ sig) _ hostMid
    (fun op h => Pipeline.sub_ucRefs op ((List.forall_iff_forall_mem.mp hostMid_sub) op h)) (List.forall_iff_forall_mem.mp hostMid_fresh) (afterCall m d)) $$ [Hb Hh]
  · isplitl [Hb] <;> iassumption
  iintro ⟨Hb, Hh⟩
  ihave Hst := (show (K (F := F)).tcSt EH d ((0 : Fin 1).val + 1) ⊢ _ from noDebt_in d) $$ Hst
  icases Hst with ⟨HO, Hst⟩
  ihave Hlv := (SparseCore.Cfg.ctx_levAts κ) $$ Hctx
  rw [wp_bind]
  iapply (region_wp (atPool m) d (Pipeline.ucRefs τ sig) arrs_sub)
  isplitl [Hst Hts]
  · iintro ⟨Hb, Hh, HO⟩
    rw [← StableHlo.seq_bind_seqK]
    iapply (StableHlo.wp_seq 𝒱 none Set.univ d (Pipeline.ucRefs τ sig) _ hostPost
      (fun op h => Pipeline.sub_ucRefs op ((List.forall_iff_forall_mem.mp hostPost_sub) op h)) (List.forall_iff_forall_mem.mp hostPost_fresh) (afterPool (atPool m) d)) $$ [Hb Hh]
    · isplitl [Hb] <;> iassumption
    iintro ⟨Hb, Hh⟩
    simp only [wp_pure]
    imodintro
    isplitl [Hst HO]
    · iapply Hst; iexact HO
    isplitl [Hh]; · iexact Hh
    isplitl [Hb] <;> iassumption
  isplitl [Hb]; · iexact Hb
  isplitl [Hh]; · iexact Hh
  isplitl [HO]; · iexact HO
  isplitl [Hlv]; · iexact Hlv
  iexact HG

/-! ## The launch -/

/-- The ghost state of the launch: the handshakes' cells and the pipeline's. -/
def u₀ : UU := (initOf (K (F := F)).hsCells (K (F := F)).hsToks,
  (initOf (Pipeline.cells (Pipeline.pin (pcfgs (F := F)) adm) ((kitP (F := F)).cellOf_inj adm)) (Pipeline.launchToks (Pipeline.pin (pcfgs (F := F)) adm) ((kitP (F := F)).cellOf_inj adm)), 1))

omit [FloatOps F] in
theorem one_pipeline (Φ : Fin 1 → Dev nD → sProp (MM F)) :
    (bigSep Finset.univ fun c : Dev nD => bigSep Finset.univ fun p : Fin 1 => Φ p c) = bigSep Finset.univ fun c => Φ 0 c :=
  bigSep_congr fun _ _ => bigSep_univ_of_subsingleton (0 : Fin 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => cellsG d)
        ∗ bigSep Finset.univ fun thr : Thread nD τ => bigSep Finset.univ fun q : Fin 1 => (P (given m)).x q thr) := by
  unfold u₀
  iintro Hu
  ihave H := (ownU_pair (initOf (K (F := F)).hsCells (K (F := F)).hsToks) (_ : UP × Counters)) $$ Hu
  icases H with ⟨HH, HP⟩
  ihave HP := (own_pair_emb (embR : Emb (UP × Counters) (MM F))
    (initOf (Pipeline.cells (Pipeline.pin (pcfgs (F := F)) adm) ((kitP (F := F)).cellOf_inj adm)) (Pipeline.launchToks (Pipeline.pin (pcfgs (F := F)) adm) ((kitP (F := F)).cellOf_inj adm)))
    (1 : Counters)) $$ HP
  icases HP with ⟨HP, -⟩
  ihave HP := (show (BI.own (((Emb.inl : Emb UP (UP × Counters)).trans embR) (initOf (Pipeline.cells (Pipeline.pin (pcfgs (F := F)) adm) ((kitP (F := F)).cellOf_inj adm))
      (Pipeline.launchToks (Pipeline.pin (pcfgs (F := F)) adm) ((kitP (F := F)).cellOf_inj adm)))) : sProp (MM F)) ⊢ BI.own (EP (initOf
      (Pipeline.cells (Pipeline.pin (pcfgs (F := F)) adm) ((kitP (F := F)).cellOf_inj adm)) (Pipeline.launchToks (Pipeline.pin (pcfgs (F := F)) adm) ((kitP (F := F)).cellOf_inj adm))))
    from .rfl) $$ HP
  imod (Pipeline.fund_ghost (Pipeline.pin (pcfgs (F := F)) adm) EP ((kitP (F := F)).cellOf_inj adm)) $$ HP with ⟨Hg, Ht⟩
  imodintro
  isplitl [HH]; · iexact HH
  isplitl [Hg Ht]
  · iapply (Entails.of_eq (bigSep_sep' Finset.univ (fun d : Dev nD => Pipeline.cellsGhost (Pipeline.pin (pcfgs (F := F)) adm) EP 0 d)
      (fun d => Pipeline.toksInit (Pipeline.pin (pcfgs (F := F)) adm) EP 0 d)).symm)
    isplitl [Hg]
    · iapply (Entails.of_eq (one_pipeline (Pipeline.cellsGhost (Pipeline.pin (pcfgs (F := F)) adm) EP))); iexact Hg
    iapply (Entails.of_eq (one_pipeline (Pipeline.toksInit (Pipeline.pin (pcfgs (F := F)) adm) EP))); iexact Ht
  rw [show (bigSep Finset.univ fun thr : Thread nD τ => bigSep Finset.univ fun q : Fin 1 => (P (given m)).x q thr) = bigSep Finset.univ fun _ => (iprop(emp) : sProp (MM F)) from
    bigSep_congr fun _ _ => bigSep_univ_of_subsingleton (0 : Fin 1), bigSep_emp']
  iempintro

def fq (d : Dev nD) (s' : Phys nD τ sig (Elt F)) : Prop := ∀ b ∈ Pipeline.ucRefs τ sig, s'.mem.mem (d, b) = atEnd m d b

theorem hfin (d : Dev nD) (s' : Phys nD τ sig (Elt F)) : iprop(FIN m d ∗ SI s') ⊢ (⌜fq m d s'⌝ : sProp (MM F)) := by
  unfold FIN StableHlo.held
  iintro ⟨Hh, HSI⟩
  ihave Hr := (pointsTo_read_all (Pipeline.ucRefs τ sig) (fun b => ((d.tc : Thread nD τ).1, b)) (atEnd m d) s') $$ [Hh HSI]
  · isplitl [Hh] <;> iassumption
  icases Hr with ⟨%h, -⟩
  ipureintro; exact h

/-- The post of the run: every buffer of the TensorCore at `atEnd`, every counter zero. -/
def QC : PUnit × MemSt nD τ sig (Elt F) → Prop := fun r => (∀ (d : Dev nD), ∀ b ∈ Pipeline.ucRefs τ sig, r.2.mem (d, b) = atEnd m d b) ∧ r.2.sem = fun _ => 0

theorem run_main [∀ e, Nonempty (Elt F e)] (hB : ∀ d j, ((given m d).bs j).toNat < 8) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (given m)) (A := ∅) launchFacts v₀
    (fun q hq => match q with | 0 => nomatch hq)
    (fun q _ => match q with | 0 => tileObl (given m) launchFacts hB)
    (fun q _ => match q with | 0 => SparseCore.Cfg.VecSplit.of_plain (vecSplit (given m)))
    m ρ main (fun d => cellsG d) (FIN m) (u₀ (F := F)) (sep_elim_left.trans (hu₀ m)) (hmain m ρ) (fq m) (hfin m) (QC m) (fun _ h hz => ⟨h, hz⟩)

end Cert.Proof.Bin

end
-- ==== Proof.Frame.lean ====
/- The arguments through the run, and the frames: what the preconditions say of the batch indices, and that each program leaves its
   arguments unchanged. -/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_batches
public import Idealize.ShloMosaic.Lib.ReduceAll
public import Idealize.ShloMosaic.Lib.Quiescent
public import Idealize.ShloMosaic.Lib.Pipeline.ValueKit.Geometry

@[expose] public section

noncomputable section

namespace Cert.Proof.Bin

open Cert.KernelIdeal Cert.KernelIdeal.Gen

open Idealize.ShloMosaic Idealize.SL.Sem

variable {F : FTy → Type} [FloatOps F] (m : (ℓ : Loc nD τ sig) → Buf (Elt F) ℓ) (ρ : Dev nD → PrngReg)

/-- What the operations before the SparseCore call write, and so what they leave. -/
theorem hostPre_writes : (hostPre (F := F)).Forall fun op => op.writes ⊆ ([main_v0, main_v1, main_v2, main_v3, main_v4, main_v5, main_v6, main_cst, main_v7, main_v8, main_v9,
    main_cst_0, main_v10, main_cst_1, main_v11, main_v12, main_v13, main_cst_2, main_v14, main_v15, main_v16, main_v17, main_v18, main_v19, main_v20, main_v21, main_v22,
    main_v23, main_v24, main_v25, main_v26, main_v27, main_v28, main_v29, main_v30, main_v31].map (Proc.devRef (τ := τ) .tc)).toFinset :=
  StableHlo.forall_writes_sub_of_map rfl
theorem hostMid_writes : (hostMid (F := F)).Forall fun op => op.writes ⊆ ([main_v33].map (Proc.devRef (τ := τ) .tc)).toFinset :=
  StableHlo.forall_writes_sub_of_map rfl
theorem hostPost_writes : (hostPost (F := F)).Forall fun op => op.writes ⊆ ([main_v35].map (Proc.devRef (τ := τ) .tc)).toFinset :=
  StableHlo.forall_writes_sub_of_map rfl

/-- A buffer the pooling does not write is as the pooling found it. -/
theorem afterPool_keeps (W : Dev nD → Valuation τ sig (Elt F)) (d : Dev nD) (r : Ref sig .tc) (h : r ≠ main_v34) :
    afterPool W d (Proc.devRef .tc r) = W d (Proc.devRef .tc r) :=
  Pipeline.afterRegion_keeps (dat W d) (W d) (kitP (F := F)).win.arr_inj (fun _ => rfl) r fun w e => by
    match w, e with
    | ⟨0, _⟩, _ => rfl
    | ⟨1, _⟩, _ => rfl
    | ⟨2, _⟩, e => exact absurd e.symm h

/-- An argument reaches the call, the pooling and the end as it stood at the launch. -/
theorem atCall_arg (d : Dev nD) {r : Ref sig .tc} (hr : r = main_arg0 ∨ r = main_arg1 ∨ r = main_arg2) :
    atCall m d (Proc.devRef .tc r) = m ((d.tc : Thread nD τ).loc r) :=
  StableHlo.after_of_writes_sub _ _ hostPre_writes (by rcases hr with rfl | rfl | rfl <;> decide)
theorem atPool_arg (d : Dev nD) {r : Ref sig .tc} (hr : r = main_arg0 ∨ r = main_arg1 ∨ r = main_arg2) :
    atPool m d (Proc.devRef .tc r) = m ((d.tc : Thread nD τ).loc r) :=
  (StableHlo.after_of_writes_sub _ _ hostMid_writes (by rcases hr with rfl | rfl | rfl <;> decide)).trans
    ((afterCall_other m d (by rcases hr with rfl | rfl | rfl <;> decide)).trans (atCall_arg m d hr))
theorem atEnd_arg (d : Dev nD) {r : Ref sig .tc} (hr : r = main_arg0 ∨ r = main_arg1 ∨ r = main_arg2) :
    atEnd m d (Proc.devRef .tc r) = m ((d.tc : Thread nD τ).loc r) :=
  (StableHlo.after_of_writes_sub _ _ hostPost_writes (by rcases hr with rfl | rfl | rfl <;> decide)).trans
    ((afterPool_keeps (atPool m) d r (by rcases hr with rfl | rfl | rfl <;> decide)).trans (atPool_arg m d hr))

/-- A TensorCore buffer outside the kernels' scopes at the end of the run. -/
theorem end_at {r : PUnit × MemSt nD τ sig (Elt F)} (h : QC m r) (d : Dev nD) (b : Ref sig .tc) (hb : b.isScoped = false) :
    r.2.mem ((d.tc : Thread nD τ).loc b) = atEnd m d (Proc.devRef .tc b) :=
  h.1 d _ (Finset.mem_filter.mpr ⟨StableHlo.devRef_mem_tcRefs b, by
    show ¬ b.isScoped = true; rw [hb]; exact Bool.false_ne_true⟩)

/-- The arguments at the end of the run. -/
theorem end_args {r : PUnit × MemSt nD τ sig (Elt F)} (h : QC m r) (d : Dev nD) :
    r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2) :=
  ⟨(end_at m h d _ rfl).trans (atEnd_arg m d (.inl rfl)), (end_at m h d _ rfl).trans (atEnd_arg m d (.inr (.inl rfl))),
    (end_at m h d _ rfl).trans (atEnd_arg m d (.inr (.inr rfl)))⟩

/-! ## The batch indices in range -/

/-- The conjunction of two bits is set when both are. -/
theorem andi_one (a b : BitVec 1) : IntOp.andi a b = 1#1 ↔ a = 1#1 ∧ b = 1#1 := by revert a b; decide

/-- A word at least 0 and below 8 as signed words is below 8 as a number. -/
theorem below_eight (w : BitVec 32) (h0 : IntOp.cmpi .sge w 0#32 = 1#1) (h8 : IntOp.cmpi .slt w 8#32 = 1#1) : w.toNat < 8 := by
  have bit (b : Bool) : BitVec.ofBool b = 1#1 ↔ b = true := by revert b; decide
  unfold IntOp.cmpi at h0 h8
  rw [bit] at h0 h8
  simp only [BitVec.sle_eq_decide, BitVec.slt_eq_decide, decide_eq_true_eq] at h0 h8
  simp only [BitVec.toInt_eq_toNat_cond] at h0 h8
  have := w.isLt
  simp only [BitVec.toNat_ofNat] at h0 h8
  split at h0 <;> split at h8 <;> simp at h0 h8 <;> omega

/-- An index of the result of reducing everything is the only one. -/
instance : Subsingleton Cert.Pre_in_batches.S_.Idx := ⟨fun a b => funext fun i => i.elim0⟩

theorem in_range {G : FTy → Type} [FloatOps G] (x : FVec G Cert.Pre_in_batches.S1000000x64 .f32) (y : IVec Cert.Pre_in_batches.S1000000x3 32) (b : IVec Cert.Pre_in_batches.S1000000 32)
    (h : Cert.Pre_in_batches.fn (F := G) x y b = fun _ => 1#1) (j : Cert.Pre_in_batches.S1000000.Idx) : (b j).toNat < 8 := by
  have e := congrFun h (fun i => i.elim0)
  simp only [Cert.Pre_in_batches.fn] at e
  have e := Host.reduce_andi_all _ _ _ _ _ e j
  simp only [andi, cmpi, broadcastInDim, constantI, andi_one] at e
  exact below_eight _ e.1 e.2

theorem run_in_range [∀ e, Nonempty (Elt F e)] (h : ∀ (d : Dev nD) j, (m ((d.tc : Thread nD τ).loc main_arg2) j).toNat < 8) :
    θ_run (Cert.KernelIdeal.defs (F := F)) (Cert.KernelIdeal.threads (F := F)) ⟨m, fun _ => 0, ρ⟩ (QC m) :=
  run_main m ρ fun d j => by
    rw [show (given m d).bs = m ((d.tc : Thread nD τ).loc main_arg2) from atCall_arg m d (.inr (.inr rfl))]
    exact h d j

/-- The frame of the kernel, for whatever the floats are. -/
theorem run_frame [∀ e, Nonempty (Elt F e)] (h : ∀ (d : Dev nD) j, (m ((d.tc : Thread nD τ).loc main_arg2) j).toNat < 8) :
    θ_run (Cert.KernelIdeal.defs (F := F)) (Cert.KernelIdeal.threads (F := F)) ⟨m, fun _ => 0, ρ⟩ fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) ∧ r.2.sem = fun _ => 0 :=
  (θ_run Cert.KernelIdeal.defs _ _).mono (fun _ q => ⟨end_args m q, q.2⟩) (run_in_range m ρ h)

end Cert.Proof.Bin

namespace Cert.Proof

open Idealize.ShloMosaic Idealize.SL.Sem

/-! ## The frames -/

/-- The kernel as taken and its idealized reading have one text, so one body table. -/
theorem bodies_same : @Cert.Kernel.defs₀ Bits _ _ = @Cert.KernelIdeal.defs₀ Bits _ _ := by
  funext p ℓ a
  match p, ℓ, a with
  | .scVector c s, 0, _ => rfl
  | .tc, 1, (t, s) => rfl
  | .tc, 0, _ => rfl
  | .scVector c s, 1, _ => rfl
  | .scScalar c, 0, _ => rfl
  | .scScalar c, 1, _ => rfl
theorem defs_same : @Cert.Kernel.defs Bits _ _ = @Cert.KernelIdeal.defs Bits _ _ :=
  congrArg (fun D => Cert.KernelIdeal.sc.defs (Pipeline.defs Cert.KernelIdeal.pcfgs D)) bodies_same

theorem threads_same : @Cert.Kernel.threads Bits _ _ = @Cert.KernelIdeal.threads Bits _ _ := rfl

theorem frame_kernel : Cert.quiescent_Kernel := fun m ρ h => by
  rw [defs_same, threads_same]
  exact Bin.run_frame (F := Bits) m ρ fun d => Bin.in_range (G := Bits) (m ((d.tc : Thread Cert.Kernel.nD Cert.Kernel.τ).loc Cert.Kernel.main_arg0))
    (m ((d.tc : Thread Cert.Kernel.nD Cert.Kernel.τ).loc Cert.Kernel.main_arg1)) (m ((d.tc : Thread Cert.Kernel.nD Cert.Kernel.τ).loc Cert.Kernel.main_arg2)) (h d)
theorem frame_ideal : Cert.quiescent_KernelIdeal := fun m ρ h => Bin.run_frame m ρ fun d => Bin.in_range _ _ _ (h d)
/-- The reference declares no counter, so none can be other than zero. -/
theorem frame_reference : Cert.quiescent_ReferenceIdeal := fun m ρ _ =>
  (θ_run Cert.ReferenceIdeal.defs _ _).mono (fun r q => And.intro (fun c => (q c).2) ( sem_eq_zero_of_no_sems (by decide) r.2)) (Cert.ReferenceIdeal.Value.run m ρ)

end Cert.Proof

end
-- ==== Proof.Sector.lean ====
/-
  The sectors at exact arithmetic. The kernel counts the squared borders that a squared distance has reached; the
  reference takes the root, scales it to units of length and counts the borders that it has reached. The two counts agree
  for a distance that is not just below a border.
-/
module

public import proofs.«01_k».proof.Proof.Words
public import Idealize.ShloMosaic.PureOps.Ideal.Laws
public import Mathlib.Algebra.BigOperators.Fin
public import Mathlib.Data.BitVec

@[expose] public section

noncomputable section

namespace Cert.Proof.Bin

open Idealize.ShloMosaic
open scoped BigOperators

/-! ## One border -/

/-- The scale from voxels to units of length, and the largest number below one, as float32 spells them. -/
abbrev voxel : ℝ := 13421773 / 268435456
abbrev almostOne : ℝ := 16777215 / 16777216

theorem voxel_word : Ideal.ofBits .f32 0x3D4CCCCD#32 = ((voxel : ℝ) : EReal) := by
  simp [Ideal.ofBits, Ideal.ieee, -EReal.coe_mul]; norm_num
theorem almostOne_word : Ideal.ofBits .f32 0x3F7FFFFF#32 = ((almostOne : ℝ) : EReal) := by
  simp [Ideal.ofBits, Ideal.ieee, -EReal.coe_mul]; norm_num

/-- A border at `q` voxels: the squared distance reaches a number `T` between `(q (1 - 2⁻²⁴))²` and `q²` exactly when the
    distance in units of length reaches `r`, unless the distance is just below `q`. -/
theorem border_iff {q T r : ℝ} (hq : 0 < q) (hT : T ≤ q ^ 2) (hT' : (q * almostOne) ^ 2 ≤ T) (hr : r ≤ q * voxel)
    (hr' : q * almostOne * voxel ≤ r) {d : EReal} (hd : 0 ≤ d)
    (h : (q : EReal) ≤ Ideal.sqrt d ∨ Ideal.sqrt d < ((q * almostOne : ℝ) : EReal)) :
    (T : EReal) ≤ d ↔ (r : EReal) ≤ Ideal.sqrt d * ((voxel : ℝ) : EReal) := by
  induction d using EReal.rec with
  | bot => exact absurd hd (by simp)
  | top =>
    rw [Ideal.sqrt_top, EReal.top_mul_coe_of_pos (by norm_num)]
    exact ⟨fun _ => le_top, fun _ => le_top⟩
  | coe x =>
    have hx : 0 ≤ x := by exact_mod_cast hd
    rw [Ideal.sqrt_coe, if_neg (not_lt.2 hx)] at h ⊢
    rw [← EReal.coe_mul, EReal.coe_le_coe_iff, EReal.coe_le_coe_iff]
    rw [EReal.coe_le_coe_iff, EReal.coe_lt_coe_iff] at h
    have hs := Real.sqrt_nonneg x
    have hss := Real.sq_sqrt hx
    rcases h with h | h
    · have h2 : q ^ 2 ≤ x := by nlinarith
      exact ⟨fun _ => hr.trans (mul_le_mul_of_nonneg_right h (by norm_num)), fun _ => hT.trans h2⟩
    · have h2 : x < (q * almostOne) ^ 2 := by nlinarith
      refine ⟨fun hc => absurd hc (by linarith), fun hc => ?_⟩
      exact absurd hc (not_le.2 (lt_of_lt_of_le (mul_lt_mul_of_pos_right h (by norm_num)) hr'))

/-! ## The sixteen borders -/

/-- The sixteen squared borders' words by number, and the borders in voxels and in units of length. -/
def borderWord (k : Fin 16) : BitVec 32 := borderWords[k.val]'k.isLt
abbrev inVoxels (k : Fin 16) : ℝ := 145 + 65 * (k.val : ℝ)
abbrev inUnits (k : Fin 16) : ℝ := 4 + 13 / 4 * ((k.val : ℝ) + 1)

/-- A squared border's word is a number just at or below the square of the border. -/
theorem border_word (k : Fin 16) : ∃ T : ℝ, Ideal.ofBits .f32 (borderWord k) = (T : EReal) ∧ T ≤ inVoxels k ^ 2
    ∧ (inVoxels k * almostOne) ^ 2 ≤ T := by
  fin_cases k <;>
  · simp only [borderWord, borderWords, inVoxels, List.getElem_cons_zero, List.getElem_cons_succ]
    refine ⟨_, by simp [Ideal.ofBits, Ideal.ieee, -EReal.coe_mul]; rfl, ?_, ?_⟩ <;> norm_num

/-- A distance from a mean is clear of a border when it has reached it or is below it by more than one part in `2²⁴`. -/
abbrev clearOf (d : EReal) (k : Fin 16) : Prop :=
  ((inVoxels k : ℝ) : EReal) ≤ Ideal.sqrt d ∨ Ideal.sqrt d < ((inVoxels k * almostOne : ℝ) : EReal)

/-- Off the borders, the kernel's test of border `k` is the reference's. -/
theorem reached_iff {d : EReal} (hd : 0 ≤ d) (k : Fin 16) (h : clearOf d k) :
    Ideal.ofBits .f32 (borderWord k) ≤ d ↔ ((inUnits k : ℝ) : EReal) ≤ Ideal.sqrt d * ((voxel : ℝ) : EReal) := by
  obtain ⟨T, hT, h1, h2⟩ := border_word k
  have hk : (0 : ℝ) ≤ (k.val : ℝ) := Nat.cast_nonneg _
  have hk' : (k.val : ℝ) ≤ 15 := by exact_mod_cast Nat.lt_succ_iff.1 k.isLt
  rw [hT]
  exact border_iff (by positivity) h1 h2 (by unfold inUnits inVoxels voxel; linarith) (by unfold inUnits inVoxels voxel almostOne; linarith) hd h

/-! ## The count -/

open Classical in
/-- The number of a truth value. -/
def oneIf (p : Prop) : BitVec 32 := if p then 1#32 else 0#32

theorem oneIf_pos {p : Prop} (h : p) : oneIf p = 1#32 := if_pos h
theorem oneIf_neg {p : Prop} (h : ¬p) : oneIf p = 0#32 := if_neg h

theorem bump_eq (d : Ideal .f32) (n t : BitVec 32) : bump (F := Ideal) d n t = n + oneIf (Ideal.ofBits .f32 t ≤ d) := by
  show n + (if BitVec.ofBool (decide (Ideal.ofBits .f32 t ≤ d)) = 1#1 then 1#32 else 0#32) = _
  by_cases h : Ideal.ofBits .f32 t ≤ d
  · rw [oneIf_pos h, decide_eq_true h]; rfl
  · rw [oneIf_neg h, decide_eq_false h]; rfl

theorem foldl_bump (d : Ideal .f32) (l : List (BitVec 32)) (n : BitVec 32) :
    l.foldl (bump (F := Ideal) d) n = n + (l.map fun t => oneIf (Ideal.ofBits .f32 t ≤ d)).sum := by
  induction l generalizing n with
  | nil => simp
  | cons t l ih => rw [List.foldl_cons, ih, bump_eq, List.map_cons, List.sum_cons, BitVec.add_assoc]

/-- The kernel's count is the number of squared borders reached. -/
theorem sectorOf_eq (d : Ideal .f32) :
    sectorOf (F := Ideal) d = ∑ k : Fin 16, oneIf (Ideal.ofBits .f32 (borderWord k) ≤ d) := by
  unfold sectorOf
  rw [foldl_bump, BitVec.zero_add]
  have e : borderWords = List.ofFn borderWord := rfl
  rw [e, List.map_ofFn, List.sum_ofFn]
  rfl

open Classical in
/-- A count of sixteen truth values is a word at most sixteen. -/
theorem sum_oneIf (p : Fin 16 → Prop) : ∃ n : ℕ, n ≤ 16 ∧ (∑ k : Fin 16, oneIf (p k)) = BitVec.ofNat 32 n := by
  refine ⟨(Finset.univ.filter p).card, (Finset.card_filter_le _ _).trans (by simp), ?_⟩
  have e : ∀ k, oneIf (p k) = if p k then (1 : BitVec 32) else 0 := fun _ => rfl
  simp only [e]
  rw [Finset.sum_boole]
  rfl

theorem sectorOf_le (d : Ideal .f32) : ∃ n : ℕ, n ≤ 16 ∧ sectorOf (F := Ideal) d = BitVec.ofNat 32 n := by
  rw [sectorOf_eq]
  exact sum_oneIf fun k => Ideal.ofBits .f32 (borderWord k) ≤ d

/-! ## A square is not negative -/

theorem mul_self_nonneg' (x : EReal) : 0 ≤ x * x := by
  rcases le_total 0 x with h | h
  · exact EReal.mul_nonneg h h
  · exact EReal.mul_nonneg_iff.2 (.inr ⟨h, h⟩)

theorem dist2_nonneg (x y z : BitVec 32) (a b c : Ideal .f32) : (0 : EReal) ≤ dist2 (F := Ideal) x y z a b c :=
  add_nonneg (add_nonneg (mul_self_nonneg' _) (mul_self_nonneg' _)) (mul_self_nonneg' _)

end Cert.Proof.Bin

end
-- ==== Proof.Pool.lean ====
/-
  The pooling region at exact arithmetic: the segment's sums and counts over all the points, and the means it leaves in the
  result's array.
-/
module

public import proofs.«01_k».proof.Proof.Main
public import proofs.«01_k».proof.Proof.Sector
public import Idealize.ShloMosaic.Lib.MatmulPlain
public import Idealize.ShloMosaic.Lib.Pipeline.ValueKit.Geometry
public import Idealize.ShloMosaic.Lib.Pipeline.FrameTail
public import Idealize.ShloMosaic.Lib.Pointwise.Sums
public import Idealize.ShloMosaic.Lib.Pipeline.Value
public import Idealize.ShloMosaic.Lib.Affine
public import Idealize.ShloMosaic.Lib.IdealHost

@[expose] public section

noncomputable section

namespace Cert.Proof.Bin

open Cert.KernelIdeal Cert.KernelIdeal.Gen
open Idealize.ShloMosaic hiding ix0 ix1 ix2 ix3 sum_idx2
open Idealize.ShloMosaic.ValueIdx (ix0 ix1 ix2 ix3)
open Idealize.ShloMosaic.SparseCore.Cfg (HIx)
open Idealize.ShloMosaic.Pipeline (Dat)
open scoped BigOperators

/-! ## One point -/

/-- A value where a label is a segment's, zero elsewhere. -/
def whereSeg (b : BitVec 32) (s : Fin 128) (x : EReal) : EReal := by
  classical exact if b = BitVec.ofNat 32 s.val then x else 0

theorem whereSeg_eq (b : BitVec 32) (s : Fin 128) (x : EReal) (h : b = BitVec.ofNat 32 s.val) : whereSeg b s x = x := by
  unfold whereSeg; exact if_pos h
theorem whereSeg_ne (b : BitVec 32) (s : Fin 128) (x : EReal) (h : ¬ b = BitVec.ofNat 32 s.val) : whereSeg b s x = 0 := by
  unfold whereSeg; exact if_neg h

/-- The indicator times a value. -/
theorem whereSeg_mul (b : BitVec 32) (s : Fin 128) (x : EReal) : whereSeg b s 1 * x = whereSeg b s x := by
  rcases Classical.em (b = BitVec.ofNat 32 s.val) with h | h
  · rw [whereSeg_eq _ _ _ h, whereSeg_eq _ _ _ h, one_mul]
  · rw [whereSeg_ne _ _ _ h, whereSeg_ne _ _ _ h, zero_mul]

/-- A comparison's bit as a number. -/
theorem indicator_word (a b : BitVec 32) (s : Fin 128) (ha : a = BitVec.ofNat 32 s.val) :
    (FloatOps.sitofp (F := Ideal) .f32 ((IntOp.cmpi .eq a b).setWidth 32) : EReal) = whereSeg b s 1 := by
  have e : (FloatOps.sitofp (F := Ideal) .f32 ((IntOp.cmpi .eq a b).setWidth 32) : EReal)
      = ((((IntOp.cmpi .eq a b).setWidth 32).toInt : ℝ) : EReal) := rfl
  rw [e]
  rcases Classical.em (b = BitVec.ofNat 32 s.val) with h | h
  · have hc : IntOp.cmpi .eq a b = 1#1 := by
      unfold IntOp.cmpi; rw [ha, h]; simp
    rw [whereSeg_eq _ _ _ h, hc]
    norm_num [show ((1#1 : BitVec 1).setWidth 32).toInt = 1 from by decide]
  · have hc : IntOp.cmpi .eq a b = 0#1 := by
      unfold IntOp.cmpi; rw [ha]
      have hb : (BitVec.ofNat 32 s.val == b) = false := by
        rw [beq_eq_false_iff_ne]; exact fun e => h e.symm
      simp only [hb]; rfl
    rw [whereSeg_ne _ _ _ h, hc]
    norm_num [show ((0#1 : BitVec 1).setWidth 32).toInt = 0 from by decide]

/-- The indicator matrix of a block's labels. -/
theorem oneHot_apply (s : S1x1x20000.Idx → BitVec 32) (a : Fin 128) (r : Fin 20000) :
    k1_pay3 (F := Ideal) s (ix2 a r) = whereSeg (s (ix3 (0 : Fin 1) (0 : Fin 1) r)) a 1 := by
  have e : broadcastTo S128x20000 (shapeCast S1x20000 s shapeCasts_S1x1x20000_S1x20000) broadcasts_S1x20000_S128x20000 (ix2 a r)
      = s (ix3 (0 : Fin 1) (0 : Fin 1) r) := by
    refine (broadcastTo_apply _ _ _ (ix2 (0 : Fin 1) r) ?_).trans ?_
    · intro q
      match q with
      | ⟨0, _⟩ => rfl
      | ⟨1, _⟩ => rfl
    · refine shapeCast_apply _ _ _ _ ?_
      rw [Shape.rowMajor_val_three, Shape.rowMajor_val_two]
      show ((0 : ℕ) * 1 + 0) * 20000 + r.val = 0 * 20000 + r.val
      omega
  refine (indicator_word _ _ a ?_).trans (congrArg (fun w => whereSeg w a 1) e)
  exact iota_single_apply _ _ _ _ _ _

theorem sumStep_apply (s : S1x1x20000.Idx → BitVec 32) (x : S20000x64.Idx → Ideal .f32) (v : S128x64.Idx → Ideal .f32) (a : Fin 128) (e : Fin 64) :
    k1_pay4 (F := Ideal) s x v (ix2 a e) = v (ix2 a e) + ∑ r : Fin 20000, whereSeg (s (ix3 (0 : Fin 1) (0 : Fin 1) r)) a (x (ix2 r e)) := by
  unfold k1_pay4
  rw [shapeCast_self]
  refine (congrArg (v (ix2 a e) + ·) (Ideal.matmul_plain_apply none _ _ _ a e)).trans ?_
  refine congrArg (v (ix2 a e) + ·) ?_
  refine (congrArg (· + _) Ideal.ofBits_zero_f32).trans ?_
  rw [zero_add]
  refine Finset.sum_congr rfl fun r _ => ?_
  exact (congrArg (· * _) (oneHot_apply s a r)).trans (whereSeg_mul _ _ _)

theorem cntStep_apply (s : S1x1x20000.Idx → BitVec 32) (v : S128x8.Idx → Ideal .f32) (a : Fin 128) (e : Fin 8) :
    k1_pay5 (F := Ideal) s v (ix2 a e) = v (ix2 a e) + ∑ r : Fin 20000, whereSeg (s (ix3 (0 : Fin 1) (0 : Fin 1) r)) a 1 := by
  unfold k1_pay5
  rw [shapeCast_self]
  refine (congrArg (v (ix2 a e) + ·) (Ideal.matmul_plain_apply none _ _ _ a e)).trans ?_
  refine congrArg (v (ix2 a e) + ·) ?_
  refine (congrArg (· + _) Ideal.ofBits_zero_f32).trans ?_
  rw [zero_add]
  refine Finset.sum_congr rfl fun r _ => ?_
  refine (congrArg₂ (· * ·) (oneHot_apply s a r) Ideal.ofBits_one_bf16).trans ?_
  exact mul_one _

theorem pay1_apply (j : S128x64.Idx) : k1_pay1 (F := Ideal) j = (0 : EReal) := by
  unfold k1_pay1; rw [shapeCast_self]; exact Ideal.ofBits_zero_f32
theorem pay2_apply (j : S128x8.Idx) : k1_pay2 (F := Ideal) j = (0 : EReal) := by
  unfold k1_pay2; rw [shapeCast_self]; exact Ideal.ofBits_zero_f32

/-- A mean from its count and its sum: zero for an empty segment. -/
def meanOf {F : FTy → Type} [FloatOps F] (n s : F .f32) : F .f32 :=
  Scalar.select (FloatOps.cmpf .ogt n (FloatOps.ofBits .f32 0x00000000#32))
    (FloatOps.divf s (FloatOps.maximumf n (FloatOps.ofBits .f32 0x3F800000#32))) (FloatOps.ofBits .f32 0x00000000#32)

theorem column_apply {F : FTy → Type} [FloatOps F] (n : S128x8.Idx → F .f32) (a : Fin 128) : column n (ix2 a (0 : Fin 1)) = n (ix2 a (0 : Fin 8)) := by
  refine congrArg n (funext fun q => Fin.ext ?_)
  match q with
  | ⟨0, _⟩ => show 0 + 1 * a.val = a.val; omega
  | ⟨1, _⟩ => rfl

theorem pay6_apply {F : FTy → Type} [FloatOps F] (n : S128x1.Idx → F .f32) (s : S128x64.Idx → F .f32) (a : Fin 128) (e : Fin 64) :
    k1_pay6 n s (ix2 a e) = meanOf (n (ix2 a (0 : Fin 1))) (s (ix2 a e)) := by
  unfold k1_pay6 meanOf
  have hb : ∀ {α : Type} (x : S128x1.Idx → α), broadcastTo S128x64 x broadcasts_S128x1_S128x64 (ix2 a e) = x (ix2 a (0 : Fin 1)) := by
    intro α x
    refine broadcastTo_apply _ _ _ (ix2 a (0 : Fin 1)) ?_
    intro q
    match q with
    | ⟨0, _⟩ => rfl
    | ⟨1, _⟩ => rfl
  refine congrArg₂ (fun b v => Scalar.select b v (FloatOps.ofBits (F := F) .f32 0x00000000#32)) ?_ ?_
  · rw [shapeCast_self]
    exact hb _
  · exact congrArg (fun v => FloatOps.divf (F := F) (φ := .f32) (s (ix2 a e)) v) (hb _)

/-- What the last point leaves in the result's buffer. -/
theorem dat_out {F : FTy → Type} [FloatOps F] (W : Dev nD → Valuation τ sig (Elt F)) (c : Dev nD) (t : Fin cfg1.N) :
    (dat W c).after (2 : Fin 3) t = pooled W c := by
  unfold dat; dsimp only

/-! ## The blocks -/

theorem seg_index : ∀ t : Fin cfg1.N, win1_0.index t = ![(grid1.coords t 0).val, 0, 0] := by decide +kernel
theorem feat_index : ∀ t : Fin cfg1.N, win1_1.index t = ![(grid1.coords t 0).val, 0] := by decide +kernel
theorem coord_val : ∀ t : Fin cfg1.N, (grid1.coords t 0).val = t.val := by decide +kernel

theorem pool_row_lt (t : Fin cfg1.N) (r : Fin 20000) : t.val * 20000 + r.val < 1000000 := by
  have h : t.val < 50 := t.isLt
  have := r.isLt; omega

section Blocks

variable (W : Dev nD → Valuation τ sig (Elt Ideal)) (c : Dev nD)

theorem segBlk_apply (t : Fin cfg1.N) (r : Fin 20000) :
    segBlk W c t (ix3 (0 : Fin 1) (0 : Fin 1) r) = W c (Proc.devRef .tc main_v33) (ix3 (⟨t.val, t.isLt⟩ : Fin 50) (0 : Fin 1) r) := by
  unfold segBlk
  have hc := coord_val t
  refine congrArg (W c (Proc.devRef .tc main_v33)) (funext fun a => Fin.ext ?_)
  match a with
  | ⟨0, _⟩ => blk_simp [seg_index]; exact hc
  | ⟨1, _⟩ => blk_simp [seg_index]
  | ⟨2, _⟩ => blk_simp [seg_index]

theorem featBlk_apply (t : Fin cfg1.N) (r : Fin 20000) (e : Fin 64) :
    featBlk W c t (ix2 r e) = W c (Proc.devRef .tc main_arg0) (ix2 (⟨t.val * 20000 + r.val, pool_row_lt t r⟩ : Fin 1000000) e) := by
  unfold featBlk
  have hc := coord_val t
  refine congrArg (W c (Proc.devRef .tc main_arg0)) (funext fun a => Fin.ext ?_)
  match a with
  | ⟨0, _⟩ => blk_simp [feat_index]; rw [hc]
  | ⟨1, _⟩ => blk_simp [feat_index]

/-! ## All the points -/

/-- What one grid point adds to a segment. -/
def sumPart (a : Fin 128) (e : Fin 64) (t : ℕ) : EReal :=
  if h : t < cfg1.N then ∑ r : Fin 20000, whereSeg (W c (Proc.devRef .tc main_v33) (ix3 (⟨t, h⟩ : Fin 50) (0 : Fin 1) r)) a
    (W c (Proc.devRef .tc main_arg0) (ix2 (⟨t * 20000 + r.val, pool_row_lt ⟨t, h⟩ r⟩ : Fin 1000000) e)) else 0
def cntPart (a : Fin 128) (t : ℕ) : EReal :=
  if h : t < cfg1.N then ∑ r : Fin 20000, whereSeg (W c (Proc.devRef .tc main_v33) (ix3 (⟨t, h⟩ : Fin 50) (0 : Fin 1) r)) a 1 else 0

theorem sums_closed (a : Fin 128) (e : Fin 64) : ∀ n : ℕ, n ≤ cfg1.N → sums W c n (ix2 a e) = ∑ t ∈ Finset.range n, sumPart W c a e t
  | 0, _ => by rw [Finset.range_zero, Finset.sum_empty]; exact pay1_apply _
  | n + 1, hn => by
      have hlt : n < cfg1.N := hn
      rw [Finset.sum_range_succ, ← sums_closed a e n (Nat.le_of_succ_le hn)]
      rw [sums, dif_pos hlt]
      unfold stepSum
      have e0 : (if isFirst (cfg1.grid.coords ⟨n, hlt⟩) = 1#1 then k1_pay1 else sums W c n) = sums W c n := by
        split
        · next h =>
          have h0 : n = 0 := (first_iff ⟨n, hlt⟩).mp h
          subst h0; rfl
        · rfl
      rw [e0]
      refine (sumStep_apply _ _ _ a e).trans (congrArg (sums W c n (ix2 a e) + ·) ?_)
      unfold sumPart
      rw [dif_pos hlt]
      refine Finset.sum_congr rfl fun r _ => ?_
      exact congrArg₂ (fun w x => whereSeg w a x) (segBlk_apply W c ⟨n, hlt⟩ r) (featBlk_apply W c ⟨n, hlt⟩ r e)

theorem cnts_closed (a : Fin 128) (e : Fin 8) : ∀ n : ℕ, n ≤ cfg1.N → cnts W c n (ix2 a e) = ∑ t ∈ Finset.range n, cntPart W c a t
  | 0, _ => by rw [Finset.range_zero, Finset.sum_empty]; exact pay2_apply _
  | n + 1, hn => by
      have hlt : n < cfg1.N := hn
      rw [Finset.sum_range_succ, ← cnts_closed a e n (Nat.le_of_succ_le hn)]
      rw [cnts, dif_pos hlt]
      unfold stepCnt
      have e0 : (if isFirst (cfg1.grid.coords ⟨n, hlt⟩) = 1#1 then k1_pay2 else cnts W c n) = cnts W c n := by
        split
        · next h =>
          have h0 : n = 0 := (first_iff ⟨n, hlt⟩).mp h
          subst h0; rfl
        · rfl
      rw [e0]
      refine (cntStep_apply _ _ a e).trans (congrArg (cnts W c n (ix2 a e) + ·) ?_)
      unfold cntPart
      rw [dif_pos hlt]
      exact Finset.sum_congr rfl fun r _ => congrArg (fun w => whereSeg w a 1) (segBlk_apply W c ⟨n, hlt⟩ r)

variable (G : Fin 1000000 → BitVec 32)
  (hG : ∀ (t : Fin 50) (r : Fin 20000), W c (Proc.devRef .tc main_v33) (ix3 t (0 : Fin 1) r) = G ⟨t.val * 20000 + r.val, pool_row_lt t r⟩)
include hG

/-- Over the whole grid: every row once. -/
theorem sums_whole (a : Fin 128) (e : Fin 64) : sums W c cfg1.N (ix2 a e)
    = ∑ i : Fin 1000000, whereSeg (G i) a (W c (Proc.devRef .tc main_arg0) (ix2 i e)) := by
  rw [sums_closed W c a e _ le_rfl, show cfg1.N = 50 from N_1, Finset.sum_range]
  refine Eq.trans ?_ (Fin.sum_univ_tiles 50 20000 (by norm_num) _).symm
  refine Finset.sum_congr rfl fun t _ => ?_
  unfold sumPart
  rw [dif_pos (show t.val < cfg1.N from t.isLt)]
  exact Finset.sum_congr rfl fun r _ => congrArg (fun w => whereSeg w a _) (hG t r)
theorem cnts_whole (a : Fin 128) (e : Fin 8) : cnts W c cfg1.N (ix2 a e) = ∑ i : Fin 1000000, whereSeg (G i) a 1 := by
  rw [cnts_closed W c a e _ le_rfl, show cfg1.N = 50 from N_1, Finset.sum_range]
  refine Eq.trans ?_ (Fin.sum_univ_tiles 50 20000 (by norm_num) _).symm
  refine Finset.sum_congr rfl fun t _ => ?_
  unfold cntPart
  rw [dif_pos (show t.val < cfg1.N from t.isLt)]
  exact Finset.sum_congr rfl fun r _ => congrArg (fun w => whereSeg w a 1) (hG t r)

/-- The means, at one segment and channel. -/
theorem pooled_apply (a : Fin 128) (e : Fin 64) : pooled W c (ix2 a e)
    = meanOf (F := Ideal) (∑ i : Fin 1000000, whereSeg (G i) a 1) (∑ i : Fin 1000000, whereSeg (G i) a (W c (Proc.devRef .tc main_arg0) (ix2 i e))) := by
  unfold pooled
  rw [pay6_apply, column_apply, cnts_whole W c G hG, sums_whole W c G hG]

omit hG in
/-- The result's array after a region whose last point leaves `P`. -/
theorem out_of_last (D : Dat τ (Elt Ideal) (HIx 1) ℕ UU ℕ cfg1 c) (P : S128x64.Idx → Ideal .f32)
    (hP : D.after (2 : Fin 3) (⟨49, by decide⟩ : Fin grid1.N) = P) : D.arrAt (2 : Fin 3) cfg1.N = P := by
  funext i
  refine (D.arrAt_emb_eq_after_last (2 : Fin 3) (⟨49, by decide⟩ : Fin grid1.N) (by decide +kernel) i).trans ?_
  rw [hP]
  rfl

omit hG in
/-- The result's array after the region. -/
theorem afterPool_out : afterPool W c (Proc.devRef .tc main_v34) = pooled W c :=
  (Pipeline.afterRegion_arr (dat W c) (W c) launch1.win.arr_inj (2 : Fin 3)).trans
    (out_of_last c (dat W c) (pooled W c) (dat_out W c _))

end Blocks

end Cert.Proof.Bin
-- ==== Proof.Labels.lean ====
/-
  The labels point by point: in batches that come in order, a block whose first and last points share a batch has no other
  batch in between, so either way of looking the mean up gives each point its own batch's.
-/
module

public import proofs.«01_k».proof.Proof.Tile
public import Idealize.ShloMosaic.Lib.ValueIdxCore

@[expose] public section

noncomputable section

namespace Cert.Proof.Bin

open Cert.KernelIdeal Cert.KernelIdeal.Gen
open Idealize.ShloMosaic
open Idealize.ShloMosaic.ValueIdx (ix0 ix1 ix2 ix3)

variable {F : FTy → Type} [FloatOps F]

/-- A batch number below eight picks its own mean. -/
theorem pickMean_eq (b : BitVec 32) (h : b.toNat < 8) (g : Fin 8 → F .f32) : pickMean b g = g ⟨b.toNat, h⟩ := by
  obtain ⟨k, rfl⟩ : ∃ k : Fin 8, b = BitVec.ofNat 32 k.val := ⟨⟨b.toNat, h⟩, by simp⟩
  have e : (⟨(BitVec.ofNat 32 k.val).toNat, h⟩ : Fin 8) = k := by
    apply Fin.ext; show (BitVec.ofNat 32 k.val).toNat = k.val
    rw [BitVec.toNat_ofNat]; exact Nat.mod_eq_of_lt (k.isLt.trans (by norm_num))
  rw [e]
  clear e h
  revert k
  have hc : ∀ a b : Fin 8, IntOp.cmpi .eq (BitVec.ofNat 32 a.val) (BitVec.ofNat 32 b.val) = 1#1 ↔ a = b := by decide
  intro k
  unfold pickMean
  simp only [hc]
  fin_cases k <;> rfl

theorem blockOf_row (A : S1000000.Idx → BitVec 32) (i : Fin 1000000) : blockOf A (i.val / 2000) (atRow i.val) = A (ix1 i) := by
  refine congrArg A (funext fun a => Fin.ext ?_)
  match a with
  | ⟨0, _⟩ =>
    show (2000 * (i.val / 2000) + i.val % 2000) % 1000000 = i.val
    rw [Nat.div_add_mod]; exact Nat.mod_eq_of_lt i.isLt
theorem blockOf_at (A : S1000000.Idx → BitVec 32) (q r : ℕ) (hr : r < 2000) (h : 2000 * q + r < 1000000) :
    blockOf A q (atRow r) = A (ix1 (⟨2000 * q + r, h⟩ : Fin 1000000)) := by
  refine congrArg A (funext fun a => Fin.ext ?_)
  match a with
  | ⟨0, _⟩ =>
    show (2000 * q + r % 2000) % 1000000 = 2000 * q + r
    rw [Nat.mod_eq_of_lt hr]; exact Nat.mod_eq_of_lt h

variable (x y z b : S1000000.Idx → BitVec 32) (t : S384.Idx → F .f32) (M : Fin 8 → Fin 3 → F .f32)
  (ht : ∀ (a : Fin 3) (l : S16.Idx) (k : Fin 8), tableMean t a l k = M k a)
  (hb : ∀ i : Fin 1000000, (b (ix1 i)).toNat < 8)
  (hs : ∀ i j : Fin 1000000, i ≤ j → (b (ix1 i)).toNat ≤ (b (ix1 j)).toNat)
include ht hb hs

/-- The label of point `i`. -/
theorem labelsAll_apply (i : Fin 1000000) : labelsAll x y z b t (ix1 i)
    = segOf (b (ix1 i)) (dist2 (x (ix1 i)) (y (ix1 i)) (z (ix1 i)) (M ⟨(b (ix1 i)).toNat, hb i⟩ 0) (M ⟨(b (ix1 i)).toNat, hb i⟩ 1)
      (M ⟨(b (ix1 i)).toNat, hb i⟩ 2)) := by
  show labels (blockOf x (i.val / 2000)) (blockOf y (i.val / 2000)) (blockOf z (i.val / 2000)) (blockOf b (i.val / 2000)) t (atRow i.val) = _
  unfold labels
  split
  · next e =>
    have hq : i.val / 2000 < 500 := by have := i.isLt; omega
    have h0 := blockOf_at b (i.val / 2000) 0 (by norm_num) (by omega)
    have h1 := blockOf_at b (i.val / 2000) 1999 (by norm_num) (by omega)
    have e' : b (ix1 (⟨2000 * (i.val / 2000) + 0, by omega⟩ : Fin 1000000)) = b (ix1 (⟨2000 * (i.val / 2000) + 1999, by omega⟩ : Fin 1000000)) := by
      rw [← h0, ← h1]; exact e
    have l0 := hs ⟨2000 * (i.val / 2000) + 0, by omega⟩ i (by show 2000 * (i.val / 2000) + 0 ≤ i.val; omega)
    have l1 := hs i ⟨2000 * (i.val / 2000) + 1999, by omega⟩ (by show i.val ≤ 2000 * (i.val / 2000) + 1999; omega)
    rw [← e'] at l1
    have hbi : blockOf b (i.val / 2000) (atRow 0) = b (ix1 i) := by
      rw [h0]; exact BitVec.eq_of_toNat_eq (le_antisymm l0 l1)
    unfold fastBlock
    dsimp only
    rw [blockOf_row, blockOf_row, blockOf_row, ht, ht, ht]
    have hk : (⟨(blockOf b (i.val / 2000) (atRow 0)).toNat % 8, Nat.mod_lt _ (by decide)⟩ : Fin 8) = ⟨(b (ix1 i)).toNat, hb i⟩ := by
      apply Fin.ext
      show (blockOf b (i.val / 2000) (atRow 0)).toNat % 8 = (b (ix1 i)).toNat
      rw [hbi]; exact Nat.mod_eq_of_lt (hb i)
    rw [hk, hbi]
  · unfold slowBlock
    have hr : ∀ g : Fin 8 → F .f32, pickMean (blockOf b (i.val / 2000) (atRow i.val)) g = g ⟨(b (ix1 i)).toNat, hb i⟩ := by
      rw [blockOf_row]; exact fun g => pickMean_eq _ (hb i) g
    rw [hr, hr, hr, ht, ht, ht, blockOf_row, blockOf_row, blockOf_row, blockOf_row]

end Cert.Proof.Bin

end
-- ==== Proof.Reference.lean ====
/-
  The reference's run, in named steps: the batches' means, the points' distances from them, the sectors, the segments and
  the pooled features.
-/
module

public import proofs.«01_k».proof.Proof.Gen.ReferenceIdeal.Run

@[expose] public section

noncomputable section

namespace Cert.Proof.Seg

open Cert.ReferenceIdeal Cert.ReferenceIdeal.Gen
open Idealize.ShloMosaic Idealize.ShloMosaic.TcCoe

variable {F : FTy → Type} [FloatOps F]

/-- The batches' means: the sums of their points' coordinates over the numbers of their points. -/
def means (C : IVec S1000000x3 32) (B : IVec S1000000 32) : FVec F S8x3 .f32 :=
  Host.divf (Host.scatterAdd scatter_S8x3_S1000000x1_S1000000x3_1_0_0_1 (broadcastInDim S8x3 ![] bcast_S_S8x3 (constant S_ .f32 0x00000000#32))
      (broadcastInDim S1000000x1 ![0] bcast_S1000000_S1000000x1_0 B) (sitofp .f32 C))
    (broadcastInDim S8x3 ![0, 1] bcast_S8x1_S8x3_0_1 (broadcastInDim S8x1 ![0] bcast_S8_S8x1_0
      (maximumf (Host.scatterAdd scatter_S8_S1000000x1_S1000000_n_0_0_1 (broadcastInDim S8 ![] bcast_S_S8 (constant S_ .f32 0x00000000#32))
          (broadcastInDim S1000000x1 ![0] bcast_S1000000_S1000000x1_0 B) (broadcastInDim S1000000 ![] bcast_S_S1000000 (constant S_ .f32 0x3F800000#32)))
        (broadcastInDim S8 ![] bcast_S_S8 (constant S_ .f32 0x3F800000#32)))))

/-- The row of means that each point's batch picks. -/
def picks (B : IVec S1000000 32) : IVec S1000000x1 32 :=
  broadcastInDim S1000000x1 ![0] bcast_S1000000_S1000000x1_0
    (select (cmpi .slt B (broadcastInDim S1000000 ![] bcast_S_S1000000 (constantI S_ 32 0#32)))
      (addi B (broadcastInDim S1000000 ![] bcast_S_S1000000 (constantI S_ 32 8#32))) B)

/-- The points' coordinates from their means, and their squared distances. -/
def shifts (C : IVec S1000000x3 32) (B : IVec S1000000 32) (M : FVec F S8x3 .f32) : FVec F S1000000x3 .f32 :=
  subf (sitofp .f32 C) (Host.gather gather_S8x3_S1000000x1_S1000000x3_1_0_n_n_0_1_13 M (picks B))
def squares (C : IVec S1000000x3 32) (B : IVec S1000000 32) (M : FVec F S8x3 .f32) : FVec F S1000000 .f32 :=
  Host.reduceAdd (mulf (shifts C B M) (shifts C B M)) (constant S_ .f32 0x00000000#32) reducesTo_S1000000x3_S1000000_d1 h_S_

/-- The borders in units of length, from the generator of equal steps with its first one set to zero. -/
def steps : FVec F S16 .f32 :=
  Host.divf (sitofp .f32 (iotaInDim S16 32 0)) (broadcastInDim S16 ![] bcast_S_S16 (constant S_ .f32 0x41800000#32))
def spaced : FVec F S16 .f32 :=
  addf (mulf (broadcastInDim S16 ![0] bcast_S1_S16_0 (shapeCast _ (id (constant S_ .f32 0x40800000#32)) shapeCasts_S_S1))
      (subf (broadcastInDim S16 ![] bcast_S_S16 (constant S_ .f32 0x3F800000#32)) steps))
    (mulf (broadcastInDim S16 ![0] bcast_S1_S16_0 (shapeCast _ (id (constant S_ .f32 0x42600000#32)) shapeCasts_S_S1)) steps)
def unset : FVec F S17 .f32 :=
  concatenate S17 0 [⟨S16, spaced⟩, ⟨S1, broadcastInDim S1 ![] bcast_S_S1 (id (constant S_ .f32 0x42600000#32))⟩] concatenates_S16_S1_S17_d0
def borders : FVec F S17 .f32 :=
  Host.scatter scatter_S17_S1_S__n_0_0_0 (fun _ b => b) unset (broadcastInDim S1 ![] bcast_S_S1 (constantI S_ 32 0#32)) (constant S_ .f32 0x00000000#32)

/-- The points' sectors: one less than the number of borders reached. -/
def reached (D : FVec F S1000000 .f32) : IVec S1000000x17 1 :=
  cmpf .ole (broadcastInDim S1000000x17 ![0, 1] bcast_S1x17_S1000000x17_0_1 (broadcastInDim S1x17 ![1] bcast_S17_S1x17_1 borders))
    (broadcastInDim S1000000x17 ![0, 1] bcast_S1000000x1_S1000000x17_0_1 (broadcastInDim S1000000x1 ![0] bcast_S1000000_S1000000x1_0
      (mulf (Host.sqrt D) (broadcastInDim S1000000 ![] bcast_S_S1000000 (constant S_ .f32 0x3D4CCCCD#32)))))
def sectors (D : FVec F S1000000 .f32) : IVec S1000000 32 :=
  subi (Host.reduce IntOp.addi (extui 32 (reached D) natLt_1_32) (constantI S_ 32 0#32) reducesTo_S1000000x17_S1000000_d1 h_S_)
    (broadcastInDim S1000000 ![] bcast_S_S1000000 (constantI S_ 32 1#32))

/-- The points that fall into a sector, and the points' segments. -/
def within (D : FVec F S1000000 .f32) : IVec S1000000 1 :=
  andi (cmpi .sge (sectors D) (broadcastInDim S1000000 ![] bcast_S_S1000000 (constantI S_ 32 0#32)))
    (cmpi .slt (sectors D) (broadcastInDim S1000000 ![] bcast_S_S1000000 (constantI S_ 32 16#32)))
def segments (B : IVec S1000000 32) (D : FVec F S1000000 .f32) : IVec S1000000 32 :=
  select (within D) (addi (muli B (broadcastInDim S1000000 ![] bcast_S_S1000000 (constantI S_ 32 16#32))) (sectors D))
    (broadcastInDim S1000000 ![] bcast_S_S1000000 (id (constantI S_ 32 128#32)))

/-- The segments' sums and counts, and the pooled features. -/
def segSums (A : FVec F S1000000x64 .f32) (G : IVec S1000000 32) : FVec F S129x64 .f32 :=
  Host.scatterAdd scatter_S129x64_S1000000x1_S1000000x64_1_0_0_1 (broadcastInDim S129x64 ![] bcast_S_S129x64 (constant S_ .f32 0x00000000#32))
    (broadcastInDim S1000000x1 ![0] bcast_S1000000_S1000000x1_0 G) A
def segCnts (G : IVec S1000000 32) (w : IVec S1000000 1) : FVec F S129 .f32 :=
  Host.scatterAdd scatter_S129_S1000000x1_S1000000_n_0_0_1 (broadcastInDim S129 ![] bcast_S_S129 (constant S_ .f32 0x00000000#32))
    (broadcastInDim S1000000x1 ![0] bcast_S1000000_S1000000x1_0 G) (uitofp .f32 w)
def averages (s : FVec F S129x64 .f32) (n : FVec F S129 .f32) : FVec F S129x64 .f32 :=
  select (broadcastInDim S129x64 ![0, 1] bcast_S129x1_S129x64_0_1 (cmpf .ogt (broadcastInDim S129x1 ![0] bcast_S129_S129x1_0 n)
      (broadcastInDim S129x1 ![] bcast_S_S129x1 (constant S_ .f32 0x00000000#32))))
    (Host.divf s (broadcastInDim S129x64 ![0, 1] bcast_S129x1_S129x64_0_1 (broadcastInDim S129x1 ![0] bcast_S129_S129x1_0
      (maximumf n (broadcastInDim S129 ![] bcast_S_S129 (constant S_ .f32 0x3F800000#32))))))
    (broadcastInDim S129x64 ![] bcast_S_S129x64 (id (constant S_ .f32 0x00000000#32)))
def pooledRows (A : FVec F S1000000x64 .f32) (C : IVec S1000000x3 32) (B : IVec S1000000 32) : FVec F S128x64 .f32 :=
  extractStridedSlice S128x64 ![0, 0]
    (averages (segSums A (segments (F := F) B (squares C B (means C B))))
      (segCnts (segments (F := F) B (squares C B (means C B))) (within (F := F) (squares C B (means C B))))) slices_S129x64_S128x64_0_0

set_option maxRecDepth 8192 in
set_option maxHeartbeats 4000000 in
/-- The run's result is the pooled rows, laid out as eight rows. -/
theorem result_eq (m : (ℓ : Loc nD τ sig) → Buf (Elt F) ℓ) (c : Dev nD) :
    Cert.ReferenceIdeal.Value.res_main_v62 m c = shapeCast _ (pooledRows (F := F) (m ((c.tc : Thread nD τ).loc main_arg0)) (m ((c.tc : Thread nD τ).loc main_arg1))
      (m ((c.tc : Thread nD τ).loc main_arg2))) shapeCasts_S128x64_S8x1024 := rfl

end Cert.Proof.Seg

end
-- ==== Proof.Given.lean ====
/-
  What the SparseCore call is given: the coordinates' columns, the batch numbers, and the table that holds each batch's mean
  sixteen times over, axis by axis.
-/
module

public import proofs.«01_k».proof.Proof.Host
public import proofs.«01_k».proof.Proof.Reference
public import Idealize.ShloMosaic.Lib.ValueIdxCore
public import Idealize.ShloMosaic.Lib.StableHlo.Run
public import Idealize.ShloMosaic.Lib.Pipeline.Value
public import Idealize.ShloMosaic.Lib.Pointwise.Reshape

@[expose] public section

noncomputable section

namespace Cert.Proof.Bin

open Cert.KernelIdeal Cert.KernelIdeal.Gen
open Idealize.ShloMosaic hiding ix0 ix1 ix2 ix3
open Idealize.ShloMosaic.StableHlo
open Idealize.ShloMosaic.ValueIdx (ix0 ix1 ix2 ix3)

variable {F : FTy → Type} [FloatOps F]

/-- One axis's means, each sixteen times over. -/
def spread (M : FVec F S8x3 .f32) : Fin 3 → FVec F S128 .f32
  | 0 => shapeCast S128 (broadcastInDim S8x16 ![0] bcast_S8_S8x16_0 (shapeCast S8 (extractStridedSlice S8x1 ![0, 0] M slices_S8x3_S8x1_0_0) shapeCasts_S8x1_S8)) shapeCasts_S8x16_S128
  | 1 => shapeCast S128 (broadcastInDim S8x16 ![0] bcast_S8_S8x16_0 (shapeCast S8 (extractStridedSlice S8x1 ![0, 1] M slices_S8x3_S8x1_0_1) shapeCasts_S8x1_S8)) shapeCasts_S8x16_S128
  | 2 => shapeCast S128 (broadcastInDim S8x16 ![0] bcast_S8_S8x16_0 (shapeCast S8 (extractStridedSlice S8x1 ![0, 2] M slices_S8x3_S8x1_0_2) shapeCasts_S8x1_S8)) shapeCasts_S8x16_S128
/-- The means' table. -/
def table (M : FVec F S8x3 .f32) : FVec F S384 .f32 :=
  concatenate S384 0 [⟨S128, spread M 0⟩, ⟨S128, spread M 1⟩, ⟨S128, spread M 2⟩] concatenates_S128_S128_S128_S384_d0

theorem spread_apply (M : FVec F S8x3 .f32) (a : Fin 3) (k : Fin 8) (l : Fin 16) (p : Fin 128) (hp : p.val = 16 * k.val + l.val) :
    spread M a (ix1 p) = M (ix2 k a) := by
  have hc : ∀ (X : FVec F S8x1 .f32), shapeCast S128 (broadcastInDim S8x16 ![0] bcast_S8_S8x16_0 (shapeCast S8 X shapeCasts_S8x1_S8)) shapeCasts_S8x16_S128 (ix1 p)
      = X (ix2 k (0 : Fin 1)) := by
    intro X
    refine (shapeCast_apply _ _ _ (ix2 k l) ?_).trans ?_
    · rw [Shape.rowMajor_val_two, Shape.rowMajor_val_one]
      show k.val * 16 + l.val = p.val
      omega
    refine (broadcastInDim_apply _ _ _ _ (ix1 k) ?_).trans ?_
    · intro q
      match q with
      | ⟨0, _⟩ => rfl
    refine shapeCast_apply _ _ _ _ ?_
    rw [Shape.rowMajor_val_two, Shape.rowMajor_val_one]
    show k.val * 1 + 0 = k.val
    omega
  match a with
  | 0 | 1 | 2 =>
    refine (hc _).trans ?_
    refine congrArg M (funext fun q => Fin.ext ?_)
    match q with
    | ⟨0, _⟩ => show 0 + k.val = k.val; omega
    | ⟨1, _⟩ => rfl

theorem table_apply (M : FVec F S8x3 .f32) (a : Fin 3) (l : S16.Idx) (k : Fin 8) : tableMean (table M) a l k = M (ix2 k a) := by
  have hl : (l 0).val < 16 := (l 0).isLt
  have hk := k.isLt
  have hp : 16 * k.val + (l 0).val < 128 := by omega
  refine Eq.trans ?_ (spread_apply M a k ⟨(l 0).val, hl⟩ ⟨16 * k.val + (l 0).val, hp⟩ rfl)
  unfold tableMean table
  have axis : ∀ (j : S384.Idx) (b : Fin S128.rank), b.cast (show S128.rank = S384.rank from rfl) ≠ (0 : Fin S384.rank) →
      ((ix1 (⟨16 * k.val + (l 0).val, hp⟩ : Fin 128) : S128.Idx) b).val = (j (b.cast rfl)).val := by
    intro j b hb
    match b with
    | ⟨0, _⟩ => exact absurd rfl hb
  match a with
  | 0 =>
    refine concatenate_apply_piece (t := S384) 0 [⟨S128, spread M 0⟩, ⟨S128, spread M 1⟩, ⟨S128, spread M 2⟩] _ _ 0 (by simp) S128 (spread M 0) rfl rfl 0 rfl
      (ix1 (⟨16 * k.val + (l 0).val, hp⟩ : Fin 128)) (axis _) ?_
    show 0 + (16 * k.val + (l 0).val) = 128 * 0 + 16 * k.val + (l 0).val
    omega
  | 1 =>
    refine concatenate_apply_piece (t := S384) 0 [⟨S128, spread M 0⟩, ⟨S128, spread M 1⟩, ⟨S128, spread M 2⟩] _ _ 1 (by simp) S128 (spread M 1) rfl rfl 128 rfl
      (ix1 (⟨16 * k.val + (l 0).val, hp⟩ : Fin 128)) (axis _) ?_
    show 128 + (16 * k.val + (l 0).val) = 128 * 1 + 16 * k.val + (l 0).val
    omega
  | 2 =>
    refine concatenate_apply_piece (t := S384) 0 [⟨S128, spread M 0⟩, ⟨S128, spread M 1⟩, ⟨S128, spread M 2⟩] _ _ 2 (by simp) S128 (spread M 2) rfl rfl 256 rfl
      (ix1 (⟨16 * k.val + (l 0).val, hp⟩ : Fin 128)) (axis _) ?_
    show 256 + (16 * k.val + (l 0).val) = 128 * 2 + 16 * k.val + (l 0).val
    omega

theorem column_cast (X : IVec S1000000x1 32) (i : Fin 1000000) :
    shapeCast S1000000 X shapeCasts_S1000000x1_S1000000 (ix1 i) = X (ix2 i (0 : Fin 1)) := by
  refine shapeCast_apply _ _ _ _ ?_
  rw [Shape.rowMajor_val_two, Shape.rowMajor_val_one]
  show i.val * 1 + 0 = i.val
  omega

variable (m : (ℓ : Loc nD τ sig) → Buf (Elt F) ℓ) (d : Dev nD)

/-- The arguments. -/
abbrev featArg : FVec F S1000000x64 .f32 := m ((d.tc : Thread nD τ).loc main_arg0)
abbrev coordArg : IVec S1000000x3 32 := m ((d.tc : Thread nD τ).loc main_arg1)
abbrev batchArg : IVec S1000000 32 := m ((d.tc : Thread nD τ).loc main_arg2)

theorem given_xs (i : Fin 1000000) : (given m d).xs (ix1 i) = coordArg m d (ix2 i (0 : Fin 3)) := by
  have h : (given m d).xs = shapeCast S1000000 (extractStridedSlice S1000000x1 ![0, 0] (coordArg m d) slices_S1000000x3_S1000000x1_0_0) shapeCasts_S1000000x1_S1000000 := by
    show StableHlo.after hostPre (StableHlo.launchContents m d) (Proc.devRef .tc main_v1) = _
    after_results_simp
    rfl
  rw [h]
  refine (column_cast _ i).trans (congrArg (coordArg m d) (funext fun q => Fin.ext ?_))
  match q with
  | ⟨0, _⟩ => show 0 + i.val = i.val; omega
  | ⟨1, _⟩ => rfl
theorem given_ys (i : Fin 1000000) : (given m d).ys (ix1 i) = coordArg m d (ix2 i (1 : Fin 3)) := by
  have h : (given m d).ys = shapeCast S1000000 (extractStridedSlice S1000000x1 ![0, 1] (coordArg m d) slices_S1000000x3_S1000000x1_0_1) shapeCasts_S1000000x1_S1000000 := by
    show StableHlo.after hostPre (StableHlo.launchContents m d) (Proc.devRef .tc main_v3) = _
    after_results_simp
    rfl
  rw [h]
  refine (column_cast _ i).trans (congrArg (coordArg m d) (funext fun q => Fin.ext ?_))
  match q with
  | ⟨0, _⟩ => show 0 + i.val = i.val; omega
  | ⟨1, _⟩ => rfl
theorem given_zs (i : Fin 1000000) : (given m d).zs (ix1 i) = coordArg m d (ix2 i (2 : Fin 3)) := by
  have h : (given m d).zs = shapeCast S1000000 (extractStridedSlice S1000000x1 ![0, 2] (coordArg m d) slices_S1000000x3_S1000000x1_0_2) shapeCasts_S1000000x1_S1000000 := by
    show StableHlo.after hostPre (StableHlo.launchContents m d) (Proc.devRef .tc main_v5) = _
    after_results_simp
    rfl
  rw [h]
  refine (column_cast _ i).trans (congrArg (coordArg m d) (funext fun q => Fin.ext ?_))
  match q with
  | ⟨0, _⟩ => show 0 + i.val = i.val; omega
  | ⟨1, _⟩ => rfl

/-- The table holds the reference's means. -/
theorem given_ms : (given m d).ms = table (Seg.means (F := F) (coordArg m d) (batchArg m d)) := by
  show StableHlo.after hostPre (StableHlo.launchContents m d) (Proc.devRef .tc main_v31) = _
  after_results
  rfl

end Cert.Proof.Bin

end
-- ==== Proof.Segment.lean ====
/-
  The reference's sums over segments at exact arithmetic, row by row: an update is added to the row that its index word
  names.
-/
module

public import proofs.«01_k».proof.Proof.Gen.ReferenceIdeal
public import Idealize.ShloMosaic.PureOps.Ideal.Laws
public import Idealize.ShloMosaic.Lib.ValueIdxCore
public import Idealize.ShloMosaic.Lib.Pointwise.Index
public import Idealize.ShloMosaic.Lib.Routing.OpsPair

@[expose] public section

noncomputable section

namespace Cert.Proof.Seg

open Cert.ReferenceIdeal Cert.ReferenceIdeal.Gen
open Idealize.ShloMosaic hiding ix1 ix2 sum_idx2
open Idealize.ShloMosaic.ValueIdx (ix1 ix2 sum_idx2)
open scoped BigOperators

/-- Point `i`'s count lands in the slot that its word names. -/
theorem count_lands (idx : IVec S1000000x1 32) (i : Fin 1000000) (x : Fin 129) :
    scatter_S129_S1000000x1_S1000000_n_0_0_1.resultIdx? (ix1 i) idx = some (ix1 x) ↔ (idx (ix2 i (0 : Fin 1))).toInt = (x.val : Int) := by
  have hstart : scatter_S129_S1000000x1_S1000000_n_0_0_1.start (ix1 i) idx 0 = (idx (ix2 i (0 : Fin 1))).toInt :=
    congrArg (fun q => (idx q).toInt) (funext fun a => match a with | ⟨0, _⟩ => rfl | ⟨1, _⟩ => rfl)
  have hwin : scatter_S129_S1000000x1_S1000000_n_0_0_1.window (ix1 i) 0 = 0 := rfl
  rw [Routing.resultIdx?_ix1, hstart, hwin]
  simp

/-- Point `i`'s feature `c` lands in the row that its word names, in its own column. -/
theorem feature_lands (idx : IVec S1000000x1 32) (i : Fin 1000000) (c : Fin 64) (x : Fin 129) (y : Fin 64) :
    scatter_S129x64_S1000000x1_S1000000x64_1_0_0_1.resultIdx? (ix2 i c) idx = some (ix2 x y)
      ↔ (idx (ix2 i (0 : Fin 1))).toInt = (x.val : Int) ∧ c = y := by
  have hstart : scatter_S129x64_S1000000x1_S1000000x64_1_0_0_1.start (ix2 i c) idx 0 = (idx (ix2 i (0 : Fin 1))).toInt :=
    congrArg (fun q => (idx q).toInt) (funext fun a => match a with | ⟨0, _⟩ => rfl | ⟨1, _⟩ => rfl)
  have hstart1 : scatter_S129x64_S1000000x1_S1000000x64_1_0_0_1.start (ix2 i c) idx 1 = 0 := rfl
  have hwin : scatter_S129x64_S1000000x1_S1000000x64_1_0_0_1.window (ix2 i c) 0 = 0 := rfl
  have hwin1 : scatter_S129x64_S1000000x1_S1000000x64_1_0_0_1.window (ix2 i c) 1 = c.val := rfl
  rw [Routing.resultIdx?_ix2, hstart, hwin, hstart1, hwin1, Fin.ext_iff]
  simp

open Classical in
/-- A slot of the reference's counts is the sum of the updates whose word names it. -/
theorem count_apply (x : FVec Ideal S129 .f32) (idx : IVec S1000000x1 32) (u : FVec Ideal S1000000 .f32) (s : Fin 129) :
    Host.scatterAdd scatter_S129_S1000000x1_S1000000_n_0_0_1 x idx u (ix1 s)
      = (x (ix1 s) : EReal) + ∑ i : Fin 1000000, if (idx (ix2 i (0 : Fin 1))).toInt = (s.val : Int) then (u (ix1 i) : EReal) else 0 := by
  show (x (ix1 s) : EReal) + ∑ j ∈ _, _ = _
  rw [Finset.sum_filter]
  refine congrArg _ ((sum_idx1 _).trans (Finset.sum_congr rfl fun i _ => ?_))
  exact if_congr (count_lands idx i s) rfl rfl

open Classical in
/-- An entry of the reference's sums is the sum of its column's features whose word names its row. -/
theorem feature_apply (x : FVec Ideal S129x64 .f32) (idx : IVec S1000000x1 32) (u : FVec Ideal S1000000x64 .f32) (s : Fin 129) (c : Fin 64) :
    Host.scatterAdd scatter_S129x64_S1000000x1_S1000000x64_1_0_0_1 x idx u (ix2 s c)
      = (x (ix2 s c) : EReal) + ∑ i : Fin 1000000, if (idx (ix2 i (0 : Fin 1))).toInt = (s.val : Int) then (u (ix2 i c) : EReal) else 0 := by
  show (x (ix2 s c) : EReal) + ∑ j ∈ _, _ = _
  rw [Finset.sum_filter, sum_idx2]
  simp only [feature_lands, ite_and]
  refine congrArg _ (Finset.sum_congr rfl fun i _ => ?_)
  split
  · exact Finset.sum_ite_eq' _ _ _ |>.trans (if_pos (Finset.mem_univ _))
  · exact Finset.sum_const_zero

end Cert.Proof.Seg

end
-- ==== Proof.Rings.lean ====
/-
  The reference's labels at exact arithmetic, point by point: off the borders, the segment of a point is the word that the
  kernel gives it.
-/
module

public import proofs.«01_k».proof.Proof.Sector
public import proofs.«01_k».proof.Proof.Segment
public import proofs.«01_k».proof.Proof.Reference
public import Idealize.ShloMosaic.Lib.Routing.OpsSet
public import Idealize.ShloMosaic.Lib.Pointwise.Reduce
public import Idealize.ShloMosaic.Lib.Affine

@[expose] public section

noncomputable section

namespace Cert.Proof.Seg

open Cert.ReferenceIdeal Cert.ReferenceIdeal.Gen
open Idealize.ShloMosaic hiding ix0 ix1 ix2 sum_idx2
open Idealize.ShloMosaic.ValueIdx (ix0 ix1 ix2)
open Cert.Proof.Bin
open scoped BigOperators

/-! ## The distances -/

section Dist

variable (C : IVec S1000000x3 32) (B : IVec S1000000 32) (M : FVec Ideal S8x3 .f32) (i : Fin 1000000) (b : Fin 8)
  (hb : B (ix1 i) = BitVec.ofNat 32 b.val)
include hb

theorem picks_apply : picks B (ix2 i (0 : Fin 1)) = BitVec.ofNat 32 b.val := by
  unfold picks
  refine (Routing.bcCol _ _ i).trans ?_
  have hs : (B (ix1 i)).toNat < 2 ^ 31 := by
    rw [hb, BitVec.toNat_ofNat]
    exact (Nat.mod_le _ _).trans_lt (b.isLt.trans (by norm_num))
  exact (Routing.wrap_of_lt (B (ix1 i)) _ hs).trans hb

theorem shifts_apply (a : Fin 3) : shifts C B M (ix2 i a)
    = FloatOps.subf (FloatOps.sitofp .f32 (C (ix2 i a))) (M (ix2 b a)) :=
  congrArg (FloatOps.subf (FloatOps.sitofp .f32 (C (ix2 i a))))
    (Routing.gather_row gather_S8x3_S1000000x1_S1000000x3_1_0_n_n_0_1_13 rfl rfl rfl rfl rfl M (picks B) i a b (picks_apply B i b hb) (by norm_num))

/-- The reference's squared distance is the kernel's. -/
theorem squares_apply : squares C B M (ix1 i)
    = dist2 (F := Ideal) (C (ix2 i (0 : Fin 3))) (C (ix2 i (1 : Fin 3))) (C (ix2 i (2 : Fin 3))) (M (ix2 b 0)) (M (ix2 b 1)) (M (ix2 b 2)) := by
  have e := Ideal.hostReduceAdd_r2_a1 reducesTo_S1000000x3_S1000000_d1 (mulf (shifts C B M) (shifts C B M)) (Ideal.ofBits .f32 0x00000000#32) (ix1 i)
  refine e.trans ?_
  rw [Ideal.ofBits_zero_f32, zero_add, Fin.sum_univ_three]
  show shifts C B M (ix2 i (0 : Fin 3)) * shifts C B M (ix2 i (0 : Fin 3)) + shifts C B M (ix2 i (1 : Fin 3)) * shifts C B M (ix2 i (1 : Fin 3))
    + shifts C B M (ix2 i (2 : Fin 3)) * shifts C B M (ix2 i (2 : Fin 3)) = _
  rw [shifts_apply C B M i b hb, shifts_apply C B M i b hb, shifts_apply C B M i b hb]
  rfl

end Dist

/-! ## The borders -/

theorem one_word : Ideal.ofBits .f32 0x3F800000#32 = ((1 : ℝ) : EReal) := by
  simp [Ideal.ofBits, Ideal.ieee, -EReal.coe_mul]; norm_num
theorem four_word : Ideal.ofBits .f32 0x40800000#32 = ((4 : ℝ) : EReal) := by
  simp [Ideal.ofBits, Ideal.ieee, -EReal.coe_mul]; norm_num
theorem sixteen_word : Ideal.ofBits .f32 0x41800000#32 = ((16 : ℝ) : EReal) := by
  simp [Ideal.ofBits, Ideal.ieee, -EReal.coe_mul]; norm_num
theorem last_word : Ideal.ofBits .f32 0x42600000#32 = ((56 : ℝ) : EReal) := by
  simp [Ideal.ofBits, Ideal.ieee, -EReal.coe_mul]; norm_num

/-- A small number's word read as a number. -/
theorem toInt_small (n : ℕ) (h : n < 16) : (BitVec.ofNat 32 n).toInt = (n : Int) := by
  rw [BitVec.toInt_eq_toNat_of_lt (by rw [BitVec.toNat_ofNat]; omega), BitVec.toNat_ofNat]; omega

theorem spaced_apply (k : Fin 16) : spaced (F := Ideal) (ix1 k) = ((4 + 13 / 4 * (k.val : ℝ) : ℝ) : EReal) := by
  have hs : steps (F := Ideal) (ix1 k) = ((((k.val : ℝ)) / 16 : ℝ) : EReal) := by
    show Ideal.div ((((BitVec.ofNat 32 k.val).toInt : ℝ)) : EReal) (Ideal.ofBits .f32 0x41800000#32) = _
    rw [toInt_small _ k.isLt, sixteen_word, Ideal.div_coe (by norm_num), ← EReal.coe_mul]
    congr 1
    push_cast
    ring
  show Ideal.ofBits .f32 0x40800000#32 * (Ideal.ofBits .f32 0x3F800000#32 - steps (F := Ideal) (ix1 k))
    + Ideal.ofBits .f32 0x42600000#32 * steps (F := Ideal) (ix1 k) = _
  rw [hs, four_word, one_word, last_word, ← EReal.coe_sub, ← EReal.coe_mul, ← EReal.coe_mul, ← EReal.coe_add]
  congr 1
  ring

theorem unset_apply (k : Fin 16) : unset (F := Ideal) (ix1 k.succ) = ((inUnits k : ℝ) : EReal) := by
  have h15 : ∀ n : Fin 15, unset (F := Ideal) (ix1 (⟨n.val + 1, by omega⟩ : Fin 17)) = spaced (F := Ideal) (ix1 (⟨n.val + 1, by omega⟩ : Fin 16)) := by
    intro n
    fin_cases n <;> rfl
  by_cases hk : k.val = 15
  · have e : k = 15 := Fin.ext hk
    subst e
    show Ideal.ofBits .f32 0x42600000#32 = _
    rw [last_word]
    unfold inUnits
    norm_num
  · have := h15 ⟨k.val, by omega⟩
    refine this.trans ((spaced_apply _).trans ?_)
    unfold inUnits
    push_cast
    rfl

theorem set_lands (e : Fin 17) (q : S_.Idx) :
    scatter_S17_S1_S__n_0_0_0.resultIdx? q (broadcastInDim S1 ![] bcast_S_S1 (constantI S_ 32 0#32)) = some (ix1 e) ↔ e.val = 0 := by
  have hstart : scatter_S17_S1_S__n_0_0_0.start q (broadcastInDim S1 ![] bcast_S_S1 (constantI S_ 32 0#32)) 0 = 0 := rfl
  have hwin : scatter_S17_S1_S__n_0_0_0.window q 0 = 0 := rfl
  rw [Routing.resultIdx?_ix1, hstart, hwin]
  omega

theorem borders_zero : borders (F := Ideal) (ix1 (0 : Fin 17)) = 0 := by
  unfold borders
  refine (Routing.scatter_set_hit _ _ _ _ _ (Ideal.ofBits .f32 0x00000000#32) (fun _ _ => rfl) ix0 ((set_lands 0 ix0).2 rfl)).trans ?_
  exact Ideal.ofBits_zero_f32
theorem borders_succ (k : Fin 16) : borders (F := Ideal) (ix1 k.succ) = ((inUnits k : ℝ) : EReal) := by
  unfold borders
  refine (Routing.scatter_set_miss _ _ _ _ _ fun q h => ?_).trans (unset_apply k)
  exact absurd ((set_lands k.succ q).1 h) (Nat.succ_ne_zero _)

/-! ## The sectors -/

section Label

variable (D : FVec Ideal S1000000 .f32) (i : Fin 1000000)

theorem reached_apply (k : Fin 17) : reached D (ix2 i k)
    = FloatOps.cmpf .ole (borders (F := Ideal) (ix1 k)) (Ideal.sqrt (D (ix1 i)) * Ideal.ofBits .f32 0x3D4CCCCD#32 : EReal) := by
  unfold reached
  show FloatOps.cmpf .ole _ _ = _
  rw [Routing.bcCols, Routing.bcRows]
  rfl

/-- A compared pair's word, widened, is the number of the truth value. -/
theorem ole_word (x y : Ideal .f32) : (FloatOps.cmpf .ole x y).setWidth 32 = oneIf ((x : EReal) ≤ y) := by
  show (BitVec.ofBool (decide ((x : EReal) ≤ y))).setWidth 32 = _
  by_cases h : (x : EReal) ≤ y
  · rw [oneIf_pos h, decide_eq_true h]; rfl
  · rw [oneIf_neg h, decide_eq_false h]; rfl

variable (h0 : (0 : EReal) ≤ D (ix1 i)) (hc : ∀ k, clearOf (D (ix1 i)) k)
include h0 hc

/-- Off the borders, the reference's sector is the kernel's count. -/
theorem sectors_apply : sectors D (ix1 i) = sectorOf (F := Ideal) (D (ix1 i)) := by
  have e : Host.reduce IntOp.addi (extui 32 (reached D) natLt_1_32) (constantI S_ 32 0#32) reducesTo_S1000000x17_S1000000_d1 h_S_ (ix1 i)
      = ∑ k : Fin 17, oneIf (borders (F := Ideal) (ix1 k) ≤ (Ideal.sqrt (D (ix1 i)) * Ideal.ofBits .f32 0x3D4CCCCD#32 : EReal)) := by
    rw [Host.reduce_eq_fold]
    refine (Shape.ReducesTo.fold_fiber_r2_a1 reducesTo_S1000000x17_S1000000_d1 (ix1 i) IntOp.addi _ _).trans ?_
    rw [Finset.sum_eq_fold]
    refine Finset.fold_congr fun k _ => ?_
    show (reached D (ix2 i k)).setWidth 32 = _
    rw [reached_apply, ole_word]
  show Host.reduce IntOp.addi (extui 32 (reached D) natLt_1_32) (constantI S_ 32 0#32) reducesTo_S1000000x17_S1000000_d1 h_S_ (ix1 i) - 1#32 = _
  rw [e, Fin.sum_univ_succ, sectorOf_eq, voxel_word]
  have hz : oneIf (borders (F := Ideal) (ix1 (0 : Fin 17)) ≤ (Ideal.sqrt (D (ix1 i)) * ((voxel : ℝ) : EReal) : EReal)) = 1#32 := by
    refine oneIf_pos ?_
    rw [borders_zero]
    refine EReal.mul_nonneg ?_ (by exact_mod_cast (by norm_num : (0 : ℝ) ≤ voxel))
    revert h0
    generalize D (ix1 i) = d
    intro h0
    induction d using EReal.rec with
    | bot => exact absurd h0 (by simp)
    | top => rw [Ideal.sqrt_top]; exact le_top
    | coe x =>
      have hx : 0 ≤ x := by exact_mod_cast h0
      rw [Ideal.sqrt_coe, if_neg (not_lt.2 hx)]
      exact_mod_cast Real.sqrt_nonneg x
  rw [hz, BitVec.add_comm, BitVec.add_sub_cancel]
  refine Finset.sum_congr rfl fun k _ => congrArg oneIf (propext ?_)
  rw [borders_succ]
  exact (reached_iff h0 k (hc k)).symm

/-- The point falls into a sector when the count is below sixteen. -/
theorem within_apply : within D (ix1 i) = IntOp.cmpi .slt (sectorOf (F := Ideal) (D (ix1 i))) 16#32 := by
  show IntOp.andi (IntOp.cmpi .sge (sectors D (ix1 i)) 0#32) (IntOp.cmpi .slt (sectors D (ix1 i)) 16#32) = _
  rw [sectors_apply D i h0 hc]
  obtain ⟨n, hn, e⟩ := sectorOf_le (D (ix1 i))
  rw [e]
  interval_cases n <;> rfl

/-- Off the borders, the reference's segment is the kernel's label. -/
theorem segments_apply (B : IVec S1000000 32) : segments B D (ix1 i) = segOf (F := Ideal) (B (ix1 i)) (D (ix1 i)) := by
  show (if within D (ix1 i) = 1#1 then IntOp.addi (IntOp.muli (B (ix1 i)) 16#32) (sectors D (ix1 i)) else 128#32) = _
  rw [within_apply D i h0 hc, sectors_apply D i h0 hc]
  rfl

end Label

/-- A label is a number up to 128, and it is below 128 just when the point falls into a sector. -/
theorem segOf_num (b : Fin 8) (d : Ideal .f32) : ∃ n : ℕ, n ≤ 128 ∧ segOf (F := Ideal) (BitVec.ofNat 32 b.val) d = BitVec.ofNat 32 n
    ∧ (n < 128 ↔ IntOp.cmpi .slt (sectorOf (F := Ideal) d) 16#32 = 1#1) := by
  obtain ⟨n, hn, e⟩ := sectorOf_le d
  unfold segOf
  rw [e]
  by_cases h : n < 16
  · have h1 : IntOp.cmpi .slt (BitVec.ofNat 32 n) 16#32 = 1#1 := by interval_cases n <;> rfl
    rw [if_pos h1]
    refine ⟨b.val * 16 + n, by omega, ?_, fun _ => h1, fun _ => by omega⟩
    show BitVec.ofNat 32 b.val * BitVec.ofNat 32 16 + BitVec.ofNat 32 n = _
    rw [← BitVec.ofNat_mul, ← BitVec.ofNat_add]
  · have h2 : n = 16 := by omega
    subst h2
    exact ⟨128, le_refl _, if_neg (by decide), ⟨fun h => absurd h (by omega), fun h => absurd h (by decide)⟩⟩

end Cert.Proof.Seg

end
-- ==== Proof.Clear.lean ====
/-
  What the precondition says: the batch numbers are below eight and in order, and every point's distance from its batch's
  mean keeps off the sixteen borders.
-/
module

public import proofs.«01_k».proof.Proof.Rings
public import proofs.«01_k».proof.Proof.Frame
public import proofs.«01_k».proof.Proof.Gen.Pre_sorted_off_borders

@[expose] public section

noncomputable section

namespace Cert.Proof.Seg

open Cert.ReferenceIdeal Cert.ReferenceIdeal.Gen
open Idealize.ShloMosaic hiding ix0 ix1 ix2 sum_idx2
open Idealize.ShloMosaic.ValueIdx (ix0 ix1 ix2)
open Cert.Proof.Bin

abbrev Sq : Shape := Cert.Pre_sorted_off_borders.S1000000x16

/-- The borders in voxels, and the test of every distance against each. -/
def marks : FVec Ideal Cert.Pre_sorted_off_borders.S1x16 .f32 :=
  addf (broadcastInDim _ ![] Cert.Pre_sorted_off_borders.Gen.bcast_S_S1x16 (constant Cert.Pre_sorted_off_borders.S_ .f32 0x43110000#32))
    (mulf (broadcastInDim _ ![] Cert.Pre_sorted_off_borders.Gen.bcast_S_S1x16 (constant Cert.Pre_sorted_off_borders.S_ .f32 0x42820000#32))
      (sitofp .f32 (iotaInDim Cert.Pre_sorted_off_borders.S1x16 32 1)))
def across (D : FVec Ideal S1000000 .f32) : FVec Ideal Sq .f32 :=
  broadcastInDim Sq ![0, 1] Cert.Pre_sorted_off_borders.Gen.bcast_S1000000x1_S1000000x16_0_1
    (broadcastInDim Cert.Pre_sorted_off_borders.S1000000x1 ![0] Cert.Pre_sorted_off_borders.Gen.bcast_S1000000_S1000000x1_0 (Host.sqrt D))
def down (X : FVec Ideal Cert.Pre_sorted_off_borders.S1x16 .f32) : FVec Ideal Sq .f32 :=
  broadcastInDim Sq ![0, 1] Cert.Pre_sorted_off_borders.Gen.bcast_S1x16_S1000000x16_0_1 X
def clearBits (D : FVec Ideal S1000000 .f32) : IVec Sq 1 :=
  ori (cmpf .oge (across D) (down marks))
    (cmpf .olt (across D) (down (mulf marks (broadcastInDim _ ![] Cert.Pre_sorted_off_borders.Gen.bcast_S_S1x16 (constant Cert.Pre_sorted_off_borders.S_ .f32 0x3F7FFFFF#32)))))

theorem across_apply (D : FVec Ideal S1000000 .f32) (i : Fin 1000000) (k : Fin 16) : across D (ix2 i k) = Ideal.sqrt (D (ix1 i)) := by
  unfold across
  refine (broadcastInDim_apply _ _ _ _ (ix2 i (0 : Fin 1)) ?_).trans ?_
  · intro q
    match q with
    | ⟨0, _⟩ => rfl
    | ⟨1, _⟩ => rfl
  refine (broadcastInDim_apply _ _ _ _ (ix1 i) ?_).trans rfl
  intro q
  match q with
  | ⟨0, _⟩ => rfl

theorem down_apply (X : FVec Ideal Cert.Pre_sorted_off_borders.S1x16 .f32) (i : Fin 1000000) (k : Fin 16) : down X (ix2 i k) = X (ix2 (0 : Fin 1) k) := by
  unfold down
  refine broadcastInDim_apply _ _ _ _ (ix2 (0 : Fin 1) k) ?_
  intro q
  match q with
  | ⟨0, _⟩ => rfl
  | ⟨1, _⟩ => rfl

theorem first_word : Ideal.ofBits .f32 0x43110000#32 = ((145 : ℝ) : EReal) := by
  simp [Ideal.ofBits, Ideal.ieee, -EReal.coe_mul]; norm_num
theorem step_word : Ideal.ofBits .f32 0x42820000#32 = ((65 : ℝ) : EReal) := by
  simp [Ideal.ofBits, Ideal.ieee, -EReal.coe_mul]; norm_num

theorem marks_apply (k : Fin 16) : marks (ix2 (0 : Fin 1) k) = ((inVoxels k : ℝ) : EReal) := by
  have e : marks (ix2 (0 : Fin 1) k)
      = Ideal.ofBits .f32 0x43110000#32 + Ideal.ofBits .f32 0x42820000#32 * (((BitVec.ofNat 32 k.val).toInt : ℝ) : EReal) := rfl
  rw [e, first_word, step_word, toInt_small k.val k.isLt]
  unfold inVoxels
  norm_cast

/-- A point whose bits are all set keeps off the borders. -/
theorem clear_of_bits (D : FVec Ideal S1000000 .f32) (i : Fin 1000000) (k : Fin 16) (h : clearBits D (ix2 i k) = 1#1) :
    clearOf (D (ix1 i)) k := by
  have or_one : ∀ a b : BitVec 1, IntOp.ori a b = 1#1 → a = 1#1 ∨ b = 1#1 := by decide
  have bit : ∀ b : Bool, BitVec.ofBool b = 1#1 → b = true := by decide
  rcases or_one _ _ h with h1 | h1
  · left
    have h2 : down marks (ix2 i k) ≤ across D (ix2 i k) := by
      have := bit _ h1
      simpa using this
    rw [across_apply, down_apply, marks_apply] at h2
    exact h2
  · right
    have h2 : across D (ix2 i k) < down (mulf marks (broadcastInDim _ ![] Cert.Pre_sorted_off_borders.Gen.bcast_S_S1x16 (constant Cert.Pre_sorted_off_borders.S_ .f32 0x3F7FFFFF#32))) (ix2 i k) := by
      have := bit _ h1
      simpa using this
    rw [across_apply, down_apply] at h2
    have e : mulf marks (broadcastInDim _ ![] Cert.Pre_sorted_off_borders.Gen.bcast_S_S1x16 (constant Cert.Pre_sorted_off_borders.S_ .f32 0x3F7FFFFF#32)) (ix2 (0 : Fin 1) k)
        = marks (ix2 (0 : Fin 1) k) * Ideal.ofBits .f32 0x3F7FFFFF#32 := rfl
    rw [e, marks_apply, almostOne_word, ← EReal.coe_mul] at h2
    exact h2

instance : Subsingleton Cert.Pre_sorted_off_borders.S_.Idx := ⟨fun a b => funext fun i => i.elim0⟩

section Pre

variable (A : FVec Ideal S1000000x64 .f32) (C : IVec S1000000x3 32) (B : IVec S1000000 32)
  (h : Cert.Pre_sorted_off_borders.fn (F := Ideal) A C B = fun _ => 1#1)
include h

theorem pre_parts : (Host.reduce IntOp.andi (andi (cmpi .sge B (broadcastInDim _ ![] Cert.Pre_sorted_off_borders.Gen.bcast_S_S1000000 (constantI Cert.Pre_sorted_off_borders.S_ 32 0#32)))
        (cmpi .slt B (broadcastInDim _ ![] Cert.Pre_sorted_off_borders.Gen.bcast_S_S1000000 (constantI Cert.Pre_sorted_off_borders.S_ 32 8#32))))
        (constantI Cert.Pre_sorted_off_borders.S_ 1 1#1) Cert.Pre_sorted_off_borders.Gen.reducesTo_S1000000_S_d0 Cert.Pre_sorted_off_borders.Gen.h_S_ ix0 = 1#1
      ∧ Host.reduce IntOp.andi (cmpi .sge (extractStridedSlice Cert.Pre_sorted_off_borders.S999999 ![1] B Cert.Pre_sorted_off_borders.Gen.slices_S1000000_S999999_1)
          (extractStridedSlice Cert.Pre_sorted_off_borders.S999999 ![0] B Cert.Pre_sorted_off_borders.Gen.slices_S1000000_S999999_0))
        (constantI Cert.Pre_sorted_off_borders.S_ 1 1#1) Cert.Pre_sorted_off_borders.Gen.reducesTo_S999999_S_d0 Cert.Pre_sorted_off_borders.Gen.h_S_ ix0 = 1#1)
      ∧ Host.reduce IntOp.andi (clearBits (squares C B (means C B))) (constantI Cert.Pre_sorted_off_borders.S_ 1 1#1)
          Cert.Pre_sorted_off_borders.Gen.reducesTo_S1000000x16_S_d0_1 Cert.Pre_sorted_off_borders.Gen.h_S_ ix0 = 1#1 := by
  have e : IntOp.andi (IntOp.andi _ _) _ = 1#1 := congrFun h ix0
  obtain ⟨e12, e3⟩ := IntOp.andi_eq_one.mp e
  obtain ⟨e1, e2⟩ := IntOp.andi_eq_one.mp e12
  exact ⟨⟨e1, e2⟩, e3⟩

theorem pre_range (i : Fin 1000000) : (B (ix1 i)).toNat < 8 := by
  have e := Host.reduce_andi_all _ _ _ _ _ (pre_parts A C B h).1.1 (ix1 i)
  simp only [andi, cmpi, broadcastInDim, constantI, andi_one] at e
  exact below_eight _ e.1 e.2

theorem pre_step (n : ℕ) (hn : n + 1 < 1000000) : (B (ix1 (⟨n, by omega⟩ : Fin 1000000))).toNat ≤ (B (ix1 (⟨n + 1, hn⟩ : Fin 1000000))).toNat := by
  have e := Host.reduce_andi_all _ _ _ _ _ (pre_parts A C B h).1.2 (ix1 (⟨n, by omega⟩ : Fin 999999))
  have h0 := pre_range A C B h ⟨n, by omega⟩
  have h1 := pre_range A C B h ⟨n + 1, hn⟩
  have i1 : extractStridedSlice Cert.Pre_sorted_off_borders.S999999 ![1] B Cert.Pre_sorted_off_borders.Gen.slices_S1000000_S999999_1 (ix1 (⟨n, by omega⟩ : Fin 999999))
      = B (ix1 (⟨n + 1, hn⟩ : Fin 1000000)) := by
    refine congrArg B (funext fun q => Fin.ext ?_)
    match q with
    | ⟨0, _⟩ => show 1 + n = n + 1; omega
  have i0 : extractStridedSlice Cert.Pre_sorted_off_borders.S999999 ![0] B Cert.Pre_sorted_off_borders.Gen.slices_S1000000_S999999_0 (ix1 (⟨n, by omega⟩ : Fin 999999))
      = B (ix1 (⟨n, by omega⟩ : Fin 1000000)) := by
    refine congrArg B (funext fun q => Fin.ext ?_)
    match q with
    | ⟨0, _⟩ => show 0 + n = n; omega
  have e' : IntOp.cmpi .sge (B (ix1 (⟨n + 1, hn⟩ : Fin 1000000))) (B (ix1 (⟨n, by omega⟩ : Fin 1000000))) = 1#1 := by
    rw [← i1, ← i0]; exact e
  have bit : ∀ b : Bool, BitVec.ofBool b = 1#1 → b = true := by decide
  have e2 := bit _ e'
  simp only [BitVec.sle_eq_decide, decide_eq_true_eq, BitVec.toInt_eq_toNat_cond] at e2
  split at e2 <;> split at e2 <;> omega

theorem pre_sorted (i j : Fin 1000000) (hij : i ≤ j) : (B (ix1 i)).toNat ≤ (B (ix1 j)).toNat := by
  obtain ⟨i, hi⟩ := i
  obtain ⟨j, hj⟩ := j
  have hij' : i ≤ j := hij
  induction j, hij' using Nat.le_induction with
  | base => exact le_rfl
  | succ n hn ih => exact (ih (by omega) hn).trans (pre_step A C B h n hj)

theorem pre_clear (i : Fin 1000000) (k : Fin 16) : clearOf (squares C B (means (F := Ideal) C B) (ix1 i)) k :=
  clear_of_bits _ i k (Host.reduce_andi_all _ _ _ _ _ (pre_parts A C B h).2 (ix2 i k))

end Pre

end Cert.Proof.Seg

end
-- ==== Proof.Value.lean ====
/-
  The kernel's result is the reference's: off the borders and with the batches in order, both average each segment's features
  over the same points.
-/
module

public import proofs.«01_k».proof.Proof.Pool
public import proofs.«01_k».proof.Proof.Labels
public import proofs.«01_k».proof.Proof.Given
public import proofs.«01_k».proof.Proof.Clear
public import Idealize.ShloMosaic.Lib.WordArith

@[expose] public section

noncomputable section

namespace Cert.Proof.Seg

open Cert.ReferenceIdeal Cert.ReferenceIdeal.Gen
open Idealize.ShloMosaic hiding ix0 ix1 ix2 ix3 sum_idx2
open Idealize.ShloMosaic.ValueIdx (ix0 ix1 ix2 ix3)
open Cert.Proof.Bin
open scoped BigOperators

/-! ## The reference's rows -/

/-- A label's word equals a segment's number exactly when the label, read as a number, is the segment's. -/
theorem label_iff (n : ℕ) (hn : n ≤ 128) (s : Fin 128) : (BitVec.ofNat 32 n).toInt = (s.val : ℤ) ↔ BitVec.ofNat 32 n = BitVec.ofNat 32 s.val := by
  have hs := s.isLt
  rw [WordArith.toInt_ofNat_small n (by omega)]
  constructor
  · intro h; have : n = s.val := by exact_mod_cast h
    rw [this]
  · intro h
    have h' := congrArg BitVec.toNat h
    rw [BitVec.toNat_ofNat, BitVec.toNat_ofNat, Nat.mod_eq_of_lt (by omega), Nat.mod_eq_of_lt (by omega)] at h'
    rw [h']

theorem averages_apply (s : FVec Ideal S129x64 .f32) (n : FVec Ideal S129 .f32) (a : Fin 129) (e : Fin 64) :
    averages s n (ix2 a e) = meanOf (F := Ideal) (n (ix1 a)) (s (ix2 a e)) := by
  have wide : ∀ {α : Type} (x : S129x1.Idx → α), broadcastInDim S129x64 ![0, 1] bcast_S129x1_S129x64_0_1 x (ix2 a e) = x (ix2 a (0 : Fin 1)) := by
    intro α x
    refine broadcastInDim_apply _ _ _ _ (ix2 a (0 : Fin 1)) ?_
    intro q
    match q with
    | ⟨0, _⟩ => rfl
    | ⟨1, _⟩ => rfl
  have tall : ∀ {α : Type} (x : S129.Idx → α), broadcastInDim S129x1 ![0] bcast_S129_S129x1_0 x (ix2 a (0 : Fin 1)) = x (ix1 a) := by
    intro α x
    refine broadcastInDim_apply _ _ _ _ (ix1 a) ?_
    intro q
    match q with
    | ⟨0, _⟩ => rfl
  unfold averages meanOf
  refine congrArg₂ (fun b v => Scalar.select b v (FloatOps.ofBits (F := Ideal) .f32 0x00000000#32)) ?_ ?_
  · refine (wide _).trans ?_
    exact congrArg (fun v => FloatOps.cmpf (F := Ideal) (φ := .f32) .ogt v (FloatOps.ofBits .f32 0x00000000#32)) (tall _)
  · exact congrArg (fun v => FloatOps.divf (F := Ideal) (φ := .f32) (s (ix2 a e)) v) ((wide _).trans (tall _))

section Rows

variable (A : FVec Ideal S1000000x64 .f32) (B : IVec S1000000 32) (D : FVec Ideal S1000000 .f32)
  (hB : ∀ i : Fin 1000000, (B (ix1 i)).toNat < 8)
  (h0 : ∀ i : Fin 1000000, (0 : EReal) ≤ D (ix1 i)) (hc : ∀ (i : Fin 1000000) (k : Fin 16), clearOf (D (ix1 i)) k)

/-- The labels as a column. -/
theorem label_col (G : IVec S1000000 32) (i : Fin 1000000) :
    broadcastInDim S1000000x1 ![0] bcast_S1000000_S1000000x1_0 G (ix2 i (0 : Fin 1)) = G (ix1 i) := by
  refine broadcastInDim_apply _ _ _ _ (ix1 i) ?_
  intro q
  match q with
  | ⟨0, _⟩ => rfl

include hB h0 hc

/-- A label is a number up to 128, and below it exactly for the points within a sector. -/
theorem label_num (i : Fin 1000000) : ∃ n ≤ 128, segments B D (ix1 i) = BitVec.ofNat 32 n ∧ (n < 128 ↔ within D (ix1 i) = 1#1) := by
  have hb : B (ix1 i) = BitVec.ofNat 32 (⟨(B (ix1 i)).toNat, hB i⟩ : Fin 8).val := by simp
  obtain ⟨n, hn, e, hw⟩ := segOf_num ⟨(B (ix1 i)).toNat, hB i⟩ (D (ix1 i))
  refine ⟨n, hn, ?_, ?_⟩
  · rw [segments_apply D i (h0 i) (hc i) B, hb]; exact e
  · rw [within_apply D i (h0 i) (hc i)]; exact hw

theorem segSums_apply (a : Fin 128) (e : Fin 64) :
    segSums A (segments B D) (ix2 (⟨a.val, a.isLt.trans (by norm_num)⟩ : Fin 129) e) = ∑ i : Fin 1000000, whereSeg (segments B D (ix1 i)) a (A (ix2 i e)) := by
  unfold segSums
  refine (feature_apply _ _ _ _ _).trans ?_
  refine (congrArg (· + _) Ideal.ofBits_zero_f32).trans ?_
  rw [zero_add]
  refine Finset.sum_congr rfl fun i _ => ?_
  rw [label_col]
  obtain ⟨n, hn, el, -⟩ := label_num B D hB h0 hc i
  rw [el]
  have := label_iff n hn a
  rcases Classical.em (BitVec.ofNat 32 n = BitVec.ofNat 32 a.val) with h | h
  · rw [whereSeg_eq _ _ _ h]; exact if_pos (this.2 h)
  · rw [whereSeg_ne _ _ _ h]; exact if_neg fun h' => h (this.1 h')

theorem segCnts_apply (a : Fin 128) :
    segCnts (F := Ideal) (segments B D) (within D) (ix1 (⟨a.val, a.isLt.trans (by norm_num)⟩ : Fin 129)) = ∑ i : Fin 1000000, whereSeg (segments B D (ix1 i)) a 1 := by
  unfold segCnts
  refine (count_apply _ _ _ _).trans ?_
  refine (congrArg (· + _) Ideal.ofBits_zero_f32).trans ?_
  rw [zero_add]
  refine Finset.sum_congr rfl fun i _ => ?_
  rw [label_col]
  obtain ⟨n, hn, el, hw⟩ := label_num B D hB h0 hc i
  have := label_iff n hn a
  rw [el]
  rcases Classical.em (BitVec.ofNat 32 n = BitVec.ofNat 32 a.val) with h | h
  · rw [whereSeg_eq _ _ _ h]
    refine (if_pos (this.2 h)).trans ?_
    have hlt : n < 128 := by
      have h' := congrArg BitVec.toNat h
      have ha := a.isLt
      rw [BitVec.toNat_ofNat, BitVec.toNat_ofNat, Nat.mod_eq_of_lt (by omega), Nat.mod_eq_of_lt (by omega)] at h'
      omega
    have e1 : uitofp (F := Ideal) .f32 (within D) (ix1 i) = (((within D (ix1 i)).toNat : ℝ) : EReal) := rfl
    rw [e1, hw.1 hlt]
    norm_num
  · rw [whereSeg_ne _ _ _ h]; exact if_neg fun h' => h (this.1 h')

/-- One pooled row of the reference. -/
theorem averages_row (a : Fin 128) (e : Fin 64) :
    averages (segSums A (segments B D)) (segCnts (segments B D) (within D)) (ix2 (⟨a.val, a.isLt.trans (by norm_num)⟩ : Fin 129) e)
      = meanOf (F := Ideal) (∑ i : Fin 1000000, whereSeg (segments B D (ix1 i)) a 1) (∑ i : Fin 1000000, whereSeg (segments B D (ix1 i)) a (A (ix2 i e))) := by
  rw [averages_apply, segSums_apply A B D hB h0 hc, segCnts_apply B D hB h0 hc]

end Rows

theorem pooledRows_apply (A : FVec Ideal S1000000x64 .f32) (C : IVec S1000000x3 32) (B : IVec S1000000 32) (a : Fin 128) (e : Fin 64) :
    pooledRows A C B (ix2 a e) = averages (segSums A (segments (F := Ideal) B (squares C B (means C B))))
      (segCnts (segments (F := Ideal) B (squares C B (means C B))) (within (F := Ideal) (squares C B (means C B))))
      (ix2 (⟨a.val, a.isLt.trans (by norm_num)⟩ : Fin 129) e) := by
  unfold pooledRows
  refine congrArg (averages _ _) (funext fun q => Fin.ext ?_)
  match q with
  | ⟨0, _⟩ => show 0 + a.val = a.val; omega
  | ⟨1, _⟩ => show 0 + e.val = e.val; omega

end Cert.Proof.Seg

namespace Cert.Proof.Bin

open Cert.KernelIdeal Cert.KernelIdeal.Gen
open Idealize.ShloMosaic hiding ix0 ix1 ix2 ix3 sum_idx2
open Idealize.ShloMosaic.StableHlo
open Idealize.ShloMosaic.ValueIdx (ix0 ix1 ix2 ix3)
open scoped BigOperators

/-! ## The kernel's rows -/

variable (m : (ℓ : Loc nD τ sig) → Buf (Elt Ideal) ℓ) (d : Dev nD)

/-- The points' squared distances, as the reference has them. -/
abbrev dists : FVec Ideal S1000000 .f32 := Seg.squares (coordArg m d) (batchArg m d) (Seg.means (F := Ideal) (coordArg m d) (batchArg m d))

theorem pool_label (t : Fin 50) (r : Fin 20000) : atPool m d (Proc.devRef .tc main_v33) (ix3 t (0 : Fin 1) r)
    = labelled (given m) d (ix1 (⟨t.val * 20000 + r.val, pool_row_lt t r⟩ : Fin 1000000)) := by
  have h : atPool m d (Proc.devRef .tc main_v33) = shapeCast S50x1x20000 (labelled (given m) d) shapeCasts_S1000000_S50x1x20000 := by
    show StableHlo.after hostMid (afterCall m d) (Proc.devRef .tc main_v33) = _
    after_results_simp
    rw [afterCall_seg]
    rfl
  rw [h]
  refine shapeCast_apply _ _ _ _ ?_
  rw [Shape.rowMajor_val_three, Shape.rowMajor_val_one]
  show t.val * 20000 + r.val = (t.val * 1 + 0) * 20000 + r.val
  omega

theorem dists_apply (i : Fin 1000000) (hb : (batchArg m d (ix1 i)).toNat < 8) : dists m d (ix1 i)
    = dist2 (coordArg m d (ix2 i (0 : Fin 3))) (coordArg m d (ix2 i (1 : Fin 3))) (coordArg m d (ix2 i (2 : Fin 3)))
        (Seg.means (F := Ideal) (coordArg m d) (batchArg m d) (ix2 (⟨(batchArg m d (ix1 i)).toNat, hb⟩ : Fin 8) (0 : Fin 3)))
        (Seg.means (F := Ideal) (coordArg m d) (batchArg m d) (ix2 (⟨(batchArg m d (ix1 i)).toNat, hb⟩ : Fin 8) (1 : Fin 3)))
        (Seg.means (F := Ideal) (coordArg m d) (batchArg m d) (ix2 (⟨(batchArg m d (ix1 i)).toNat, hb⟩ : Fin 8) (2 : Fin 3))) :=
  Seg.squares_apply _ _ _ i ⟨(batchArg m d (ix1 i)).toNat, hb⟩ (by simp)

variable (h : Cert.Pre_sorted_off_borders.fn (F := Ideal) (featArg m d) (coordArg m d) (batchArg m d) = fun _ => 1#1)
include h

theorem dists_nonneg (i : Fin 1000000) : (0 : EReal) ≤ dists m d (ix1 i) := by
  rw [dists_apply m d i (Seg.pre_range _ _ _ h i)]
  exact dist2_nonneg _ _ _ _ _ _

/-- The kernel's label of a point is the reference's. -/
theorem label_eq (i : Fin 1000000) : labelled (given m) d (ix1 i) = Seg.segments (batchArg m d) (dists m d) (ix1 i) := by
  have hbs : (given m d).bs = batchArg m d := atCall_arg m d (.inr (.inr rfl))
  have hr := Seg.pre_range _ _ _ h
  refine Eq.trans ?_ (Seg.segments_apply (dists m d) i (dists_nonneg m d h i) (Seg.pre_clear _ _ _ h i) (batchArg m d)).symm
  rw [dists_apply m d i (hr i)]
  show labelsAll (given m d).xs (given m d).ys (given m d).zs (given m d).bs (given m d).ms (ix1 i) = _
  rw [hbs, given_ms]
  refine (labelsAll_apply _ _ _ _ _ (fun k a => Seg.means (F := Ideal) (coordArg m d) (batchArg m d) (ix2 k a)) (fun a l k => table_apply _ a l k) hr
    (Seg.pre_sorted _ _ _ h) i).trans ?_
  rw [given_xs, given_ys, given_zs]

/-- The pooled rows are the reference's. -/
theorem pooled_eq : pooled (atPool m) d = Seg.pooledRows (F := Ideal) (featArg m d) (coordArg m d) (batchArg m d) := by
  funext j
  obtain ⟨a, e, rfl⟩ : ∃ (a : Fin 128) (e : Fin 64), j = ix2 a e := ⟨j 0, j 1, funext fun q => match q with | ⟨0, _⟩ => rfl | ⟨1, _⟩ => rfl⟩
  refine (pooled_apply (atPool m) d (fun i => labelled (given m) d (ix1 i)) (pool_label m d) a e).trans ?_
  refine Eq.trans ?_ (Seg.pooledRows_apply _ _ _ a e).symm
  refine Eq.trans ?_ (Seg.averages_row (featArg m d) (batchArg m d) (dists m d) (Seg.pre_range _ _ _ h) (dists_nonneg m d h) (Seg.pre_clear _ _ _ h) a e).symm
  have hA : atPool m d (Proc.devRef .tc main_arg0) = featArg m d := atPool_arg m d (.inl rfl)
  refine congrArg₂ (meanOf (F := Ideal)) (Finset.sum_congr rfl fun i _ => ?_) (Finset.sum_congr rfl fun i _ => ?_)
  · rw [label_eq m d h i]
  · rw [label_eq m d h i, hA]

/-- The kernel's result. -/
theorem result_at_end : atEnd m d (Proc.devRef .tc main_v35)
    = shapeCast S8x1024 (Seg.pooledRows (F := Ideal) (featArg m d) (coordArg m d) (batchArg m d)) shapeCasts_S128x64_S8x1024 := by
  show StableHlo.after hostPost (afterPool (atPool m) d) (Proc.devRef .tc main_v35) = _
  after_results_simp
  rw [afterPool_out, pooled_eq m d h]
  rfl

end Cert.Proof.Bin

namespace Cert.Proof

open Idealize.ShloMosaic Idealize.SL.Sem

theorem frame_ideal_sorted : Cert.quiescent_KernelIdeal_pre_sorted_off_borders := fun m ρ h =>
  Bin.run_frame m ρ fun d j => by
    have e := Seg.pre_range _ _ _ (h d) (j 0)
    have ej : j = ValueIdx.ix1 (j 0) := funext fun q => match q with | ⟨0, _⟩ => rfl
    rw [ej]; exact e
theorem frame_reference_sorted : Cert.quiescent_ReferenceIdeal_pre_sorted_off_borders := fun m ρ _ => frame_reference m ρ trivial

/-- Both programs end with one value at their results. -/
theorem value : Cert.algebraic_KernelIdeal_ReferenceIdeal_pre_sorted_off_borders := fun m g m' g' h same => by
  refine ⟨fun c => Bin.atEnd m c (Proc.devRef .tc Cert.KernelIdeal.main_v35), ?_, ?_⟩
  · have hr : ∀ (d : Dev Cert.KernelIdeal.nD) j, (m ((d.tc : Thread Cert.KernelIdeal.nD Cert.KernelIdeal.τ).loc Cert.KernelIdeal.main_arg2) j).toNat < 8 := fun d j => by
      have e := Seg.pre_range _ _ _ (h d) (j 0)
      have ej : j = ValueIdx.ix1 (j 0) := funext fun q => match q with | ⟨0, _⟩ => rfl
      rw [ej]; exact e
    refine (θ_run Cert.KernelIdeal.defs _ _).mono (fun r q c => ⟨Bin.end_at m q c _ rfl, Bin.end_args m q c⟩) (Bin.run_in_range m g hr)
  · refine (θ_run Cert.ReferenceIdeal.defs _ _).mono (fun r q c => ⟨?_, (q c).2⟩) (Cert.ReferenceIdeal.Value.run m' g')
    refine (q c).1.trans ?_
    refine (Seg.result_eq m' c).trans ?_
    rw [(same c).1, (same c).2.1, (same c).2.2]
    exact (Bin.result_at_end m c (h c)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_batches
public import proofs.«01_k».proof.Proof.Gen.Pre_sorted_off_borders
public import proofs.«01_k».proof.Proof.Frame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_batches.Gen.facts,
  Cert.Pre_sorted_off_borders.Gen.facts, frame_kernel, frame_ideal, frame_ideal_sorted, frame_reference, frame_reference_sorted, trivial, value⟩

end Cert.Proof

end
